-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  IdealRules.named_const.Statement Cert.KernelIdeal.κ "log2e" .f32 0x3FB8AA3B#32 (((Real.log 2)⁻¹ : ℝ) : EReal)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2x16384x4096 : Shape := ⟨3, ![2, 16384, 4096]⟩
abbrev S2x16384x512 : Shape := ⟨3, ![2, 16384, 512]⟩
abbrev S32 : Shape := ⟨1, ![32]⟩
abbrev S4 : Shape := ⟨1, ![4]⟩
abbrev S1x256x128 : Shape := ⟨3, ![1, 256, 128]⟩
abbrev S1x16384x128 : Shape := ⟨3, ![1, 16384, 128]⟩
abbrev S256x16384 : Shape := ⟨2, ![256, 16384]⟩
abbrev S256x128 : Shape := ⟨2, ![256, 128]⟩
abbrev S1 : Shape := ⟨1, ![1]⟩
abbrev S1x512x128 : Shape := ⟨3, ![1, 512, 128]⟩
abbrev S512x128 : Shape := ⟨2, ![512, 128]⟩
abbrev S256x512 : Shape := ⟨2, ![256, 512]⟩
abbrev S256 : Shape := ⟨1, ![256]⟩
abbrev S256x1 : Shape := ⟨2, ![256, 1]⟩
abbrev S256x2048 : Shape := ⟨2, ![256, 2048]⟩
abbrev S1x2048x128 : Shape := ⟨3, ![1, 2048, 128]⟩
abbrev S2048x128 : Shape := ⟨2, ![2048, 128]⟩

abbrev nBuf : Space → Nat
  | .hbm => 7
  | .vmem => 11
  | .smem => 3
  | _ => 0

abbrev bufTy : (tb : Table) → Fin (tcTables nBuf tb) → BufTy
  | .hbm, ⟨0, _⟩ => ⟨S2x16384x4096, .fp8e4m3⟩
  | .hbm, ⟨1, _⟩ => ⟨S2x16384x512, .fp8e4m3⟩
  | .hbm, ⟨2, _⟩ => ⟨S2x16384x512, .fp8e4m3⟩
  | .hbm, ⟨3, _⟩ => ⟨S32, .f32⟩
  | .hbm, ⟨4, _⟩ => ⟨S4, .f32⟩
  | .hbm, ⟨5, _⟩ => ⟨S4, .f32⟩
  | .hbm, ⟨6, _⟩ => ⟨S2x16384x4096, .bf16⟩
  | .local _ .vmem, ⟨0, _⟩ => ⟨S1x256x128, .fp8e4m3⟩
  | .local _ .vmem, ⟨1, _⟩ => ⟨S1x256x128, .fp8e4m3⟩
  | .local _ .vmem, ⟨2, _⟩ => ⟨S1x16384x128, .fp8e4m3⟩
  | .local _ .vmem, ⟨3, _⟩ => ⟨S1x16384x128, .fp8e4m3⟩
  | .local _ .vmem, ⟨4, _⟩ => ⟨S1x16384x128, .fp8e4m3⟩
  | .local _ .vmem, ⟨5, _⟩ => ⟨S1x16384x128, .fp8e4m3⟩
  | .local _ .vmem, ⟨6, _⟩ => ⟨S1x256x128, .bf16⟩
  | .local _ .vmem, ⟨7, _⟩ => ⟨S1x256x128, .bf16⟩
  | .local _ .vmem, ⟨8, _⟩ => ⟨S256x16384, .f32⟩
  | .local _ .vmem, ⟨9, _⟩ => ⟨S256x128, .f32⟩
  | .local _ .vmem, ⟨10, _⟩ => ⟨S256x128, .f32⟩
  | .local _ .smem, ⟨0, _⟩ => ⟨S32, .f32⟩
  | .local _ .smem, ⟨1, _⟩ => ⟨S4, .f32⟩
  | .local _ .smem, ⟨2, _⟩ => ⟨S4, .f32⟩
  | _, _ => ⟨S2x16384x4096, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .smem, ⟨0, _⟩ => true
  | .smem, ⟨1, _⟩ => true
  | .smem, ⟨2, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev cc0_stg3_0 : Ref sig .tc := ⟨.vmem, 0, rfl⟩
abbrev cc0_stg3_1 : Ref sig .tc := ⟨.vmem, 1, rfl⟩
abbrev cc0_stg4_0 : Ref sig .tc := ⟨.vmem, 2, rfl⟩
abbrev cc0_stg4_1 : Ref sig .tc := ⟨.vmem, 3, rfl⟩
abbrev cc0_stg5_0 : Ref sig .tc := ⟨.vmem, 4, rfl⟩
abbrev cc0_stg5_1 : Ref sig .tc := ⟨.vmem, 5, rfl⟩
abbrev cc0_stg6_0 : Ref sig .tc := ⟨.vmem, 6, rfl⟩
abbrev cc0_stg6_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_stg0_0 : Ref sig .tc := ⟨.smem, 0, rfl⟩
abbrev cc0_stg1_0 : Ref sig .tc := ⟨.smem, 1, rfl⟩
abbrev cc0_stg2_0 : Ref sig .tc := ⟨.smem, 2, rfl⟩
abbrev cc0_sem0_0 : DmaSem sig := 0
abbrev cc0_sem1_0 : DmaSem sig := 1
abbrev cc0_sem2_0 : DmaSem sig := 2
abbrev cc0_sem3_0 : DmaSem sig := 3
abbrev cc0_sem3_1 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨4, ![2, 4, 8, 64], ![false, false, false, false]⟩

def k0_off1 (i : grid0.Coords) : Fin 1 → Nat :=
  let arg1 : BitVec 32 := BitVec.ofNat 32 (i 1).val
  let c8_i32 : BitVec 32 := 8#32
  let v0 : BitVec 32 := Scalar.muli arg1 c8_i32
  let arg2 : BitVec 32 := BitVec.ofNat 32 (i 2).val
  let v1 : BitVec 32 := Scalar.addi v0 arg2
  let v2 : Index := Scalar.indexCast v1
  ![v2.toNat]
def k0_off2 (i : grid0.Coords) : Fin 1 → Nat :=
  let arg1 : BitVec 32 := BitVec.ofNat 32 (i 1).val
  let v4 : Index := Scalar.indexCast arg1
  ![v4.toNat]
@[reducible] def k0_t1_loop : Scf.Loop 32 :=
  let c0_i32 : BitVec 32 := 0#32
  let c32_i32 : BitVec 32 := 32#32
  let v15 : BitVec 32 := Scalar.addi c0_i32 c32_i32
  let c1_i32 : BitVec 32 := 1#32
  ⟨c0_i32, v15, c1_i32⟩
def k0_off3 (k0_t1 : Fin k0_t1_loop.trips) : Fin 3 → Nat :=
  let c0_34 : Index := 0#32
  let c0_i32 : BitVec 32 := 0#32
  let c1_i32 : BitVec 32 := 1#32
  let arg14 : BitVec 32 := Scf.iv c0_i32 c1_i32 k0_t1
  let c512_i32 : BitVec 32 := 512#32
  let v48 : BitVec 32 := Scalar.muli arg14 c512_i32
  let v49 : Index := Scalar.indexCast v48
  let c0_35 : Index := 0#32
  ![0, v49.toNat, 0]
@[reducible] def k0_t2_loop : Scf.Loop 32 :=
  let c0_i32_13 : BitVec 32 := 0#32
  let c32_i32_14 : BitVec 32 := 32#32
  let v25 : BitVec 32 := Scalar.addi c0_i32_13 c32_i32_14
  let c1_i32_15 : BitVec 32 := 1#32
  ⟨c0_i32_13, v25, c1_i32_15⟩
def k0_off4 (k0_t2 : Fin k0_t2_loop.trips) : Fin 3 → Nat :=
  let c0_34 : Index := 0#32
  let c0_i32_13 : BitVec 32 := 0#32
  let c1_i32_15 : BitVec 32 := 1#32
  let arg14 : BitVec 32 := Scf.iv c0_i32_13 c1_i32_15 k0_t2
  let c512_i32 : BitVec 32 := 512#32
  let v48 : BitVec 32 := Scalar.muli arg14 c512_i32
  let v49 : Index := Scalar.indexCast v48
  let c0_35 : Index := 0#32
  ![0, v49.toNat, 0]
def k0_off5 (k0_t2 : Fin k0_t2_loop.trips) : Fin 2 → Nat :=
  let c0_38 : Index := 0#32
  let c0_i32_13 : BitVec 32 := 0#32
  let c1_i32_15 : BitVec 32 := 1#32
  let arg14 : BitVec 32 := Scf.iv c0_i32_13 c1_i32_15 k0_t2
  let c512_i32_37 : BitVec 32 := 512#32
  let v58 : BitVec 32 := Scalar.muli arg14 c512_i32_37
  let v59 : Index := Scalar.indexCast v58
  ![0, v59.toNat]
@[reducible] def k0_t3_loop : Scf.Loop 32 :=
  let c0_i32_24 : BitVec 32 := 0#32
  let c8_i32_25 : BitVec 32 := 8#32
  let v37 : BitVec 32 := Scalar.addi c0_i32_24 c8_i32_25
  let c1_i32_26 : BitVec 32 := 1#32
  ⟨c0_i32_24, v37, c1_i32_26⟩
def k0_off6 (k0_t3 : Fin k0_t3_loop.trips) : Fin 2 → Nat :=
  let c0_34 : Index := 0#32
  let c0_i32_24 : BitVec 32 := 0#32
  let c1_i32_26 : BitVec 32 := 1#32
  let arg14 : BitVec 32 := Scf.iv c0_i32_24 c1_i32_26 k0_t3
  let c2048_i32 : BitVec 32 := 2048#32
  let v48 : BitVec 32 := Scalar.muli arg14 c2048_i32
  let v49 : Index := Scalar.indexCast v48
  ![0, v49.toNat]
def k0_off7 (k0_t3 : Fin k0_t3_loop.trips) : Fin 3 → Nat :=
  let c0_39 : Index := 0#32
  let c0_i32_24 : BitVec 32 := 0#32
  let c1_i32_26 : BitVec 32 := 1#32
  let arg14 : BitVec 32 := Scf.iv c0_i32_24 c1_i32_26 k0_t3
  let c2048_i32_38 : BitVec 32 := 2048#32
  let v57 : BitVec 32 := Scalar.muli arg14 c2048_i32_38
  let v58 : Index := Scalar.indexCast v57
  let c0_40 : Index := 0#32
  ![0, v58.toNat, 0]
def cc0_transform_0 (i : grid0.Coords) : Fin 1 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  ![c0_i32.toNat]

def cc0_transform_1 (i : grid0.Coords) : Fin 1 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  ![c0_i32.toNat]

def cc0_transform_2 (i : grid0.Coords) : Fin 1 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  ![c0_i32.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c8_i32 : BitVec 32 := 8#32
  let v0 : BitVec 32 := Scalar.muli arg1 c8_i32
  let v1 : BitVec 32 := Scalar.addi v0 arg2
  let c0_i32 : BitVec 32 := 0#32
  ![arg0.toNat, arg3.toNat, v1.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  ![arg0.toNat, c0_i32.toNat, arg1.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  ![arg0.toNat, c0_i32.toNat, arg1.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c8_i32 : BitVec 32 := 8#32
  let v0 : BitVec 32 := Scalar.muli arg1 c8_i32
  let v1 : BitVec 32 := Scalar.addi v0 arg2
  let c0_i32 : BitVec 32 := 0#32
  ![arg0.toNat, arg3.toNat, v1.toNat]

abbrev stage0_0 : Fin 1 → Memref sig .tc .smem S32 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false, false, false]

abbrev stage0_1 : Fin 1 → Memref sig .tc .smem S4 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false, false]

abbrev stage0_2 : Fin 1 → Memref sig .tc .smem S4 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false, false, false]

abbrev stage0_3 : Fin 2 → Memref sig .tc .vmem S1x256x128 .fp8e4m3 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true, true]

abbrev stage0_4 : Fin 2 → Memref sig .tc .vmem S1x16384x128 .fp8e4m3 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false, false]

abbrev stage0_5 : Fin 2 → Memref sig .tc .vmem S1x16384x128 .fp8e4m3 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false, false]

abbrev stage0_6 : Fin 2 → Memref sig .tc .vmem S1x256x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true, true]
-- ==== KernelIdeal.lean ====
variable {F : FTy → Type} [FloatOps F] [Named F]
def κ : String → Option EReal := fun
  | "log2e" => some (((Real.log 2)⁻¹ : ℝ) : EReal)
  | _ => none
-- ==== ReferenceIdeal.lean ====
abbrev S2x16384x4096 : Shape := ⟨3, ![2, 16384, 4096]⟩
abbrev S2x16384x512 : Shape := ⟨3, ![2, 16384, 512]⟩
abbrev S32 : Shape := ⟨1, ![32]⟩
abbrev S4 : Shape := ⟨1, ![4]⟩
abbrev S2x16384x4x8x128 : Shape := ⟨5, ![2, 16384, 4, 8, 128]⟩
abbrev S2x16384x4x128 : Shape := ⟨4, ![2, 16384, 4, 128]⟩
abbrev S4x8 : Shape := ⟨2, ![4, 8]⟩
abbrev S4x1 : Shape := ⟨2, ![4, 1]⟩
abbrev S2x4x16384x16384x8 : Shape := ⟨5, ![2, 4, 16384, 16384, 8]⟩
abbrev S2x4x8x16384x16384 : Shape := ⟨5, ![2, 4, 8, 16384, 16384]⟩
abbrev S1x4x8x1x1 : Shape := ⟨5, ![1, 4, 8, 1, 1]⟩
abbrev S2x4x8x16384 : Shape := ⟨4, ![2, 4, 8, 16384]⟩
abbrev S2x4x8x16384x1 : Shape := ⟨5, ![2, 4, 8, 16384, 1]⟩
abbrev S2x4x128x8x16384 : Shape := ⟨5, ![2, 4, 128, 8, 16384]⟩
abbrev S4x1x1 : Shape := ⟨3, ![4, 1, 1]⟩
abbrev S1x1x4x1x1 : Shape := ⟨5, ![1, 1, 4, 1, 1]⟩

abbrev nBuf : Space → Nat
  | .hbm => 7
  | .vmem => 7
  | .smem => 0
  | _ => 0

abbrev bufTy : (tb : Table) → Fin (tcTables nBuf tb) → BufTy
  | .hbm, ⟨0, _⟩ => ⟨S2x16384x4096, .fp8e4m3⟩
  | .hbm, ⟨1, _⟩ => ⟨S2x16384x512, .fp8e4m3⟩
  | .hbm, ⟨2, _⟩ => ⟨S2x16384x512, .fp8e4m3⟩
  | .hbm, ⟨3, _⟩ => ⟨S32, .f32⟩
  | .hbm, ⟨4, _⟩ => ⟨S4, .f32⟩
  | .hbm, ⟨5, _⟩ => ⟨S4, .f32⟩
  | .hbm, ⟨6, _⟩ => ⟨S2x16384x4096, .bf16⟩
  | .local _ .vmem, ⟨0, _⟩ => ⟨S2x16384x4096, .fp8e4m3⟩
  | .local _ .vmem, ⟨1, _⟩ => ⟨S2x16384x512, .fp8e4m3⟩
  | .local _ .vmem, ⟨2, _⟩ => ⟨S2x16384x512, .fp8e4m3⟩
  | .local _ .vmem, ⟨3, _⟩ => ⟨S32, .f32⟩
  | .local _ .vmem, ⟨4, _⟩ => ⟨S4, .f32⟩
  | .local _ .vmem, ⟨5, _⟩ => ⟨S4, .f32⟩
  | .local _ .vmem, ⟨6, _⟩ => ⟨S2x16384x4096, .bf16⟩
  | _, _ => ⟨S2x16384x4096, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S2x16384x4096 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2x16384x512 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x16384x512 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S32 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S4 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S4 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S2x16384x4096 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== Proof.Block.lean ====
module

public import Idealize.ShloMosaic.Lib.WritesUnit
public import Idealize.ShloMosaic.Lib.Pipeline.Value
public import proofs.«01_k».proof.Proof.Gen.KernelIdeal.Frame
public import proofs.«01_k».proof.Proof.Gen.KernelIdeal.Skeleton
public import proofs.«01_k».proof.Proof.Gen.KernelIdeal.Loops

@[expose] public section

/-! # What one grid point computes, as a function of its blocks

A grid point holds one block of 256 queries of one head, all 16384 keys and all 16384 values of the key head it belongs to, and
three scales. It goes three times over the keys: the running maximum of the scores (`maxAfter`), the exponentials and their running
sums (`expAt`, `sumAfter`), and the product of the rounded exponentials with the values (`accAfter`). `out` is what it stores. -/

set_option maxRecDepth 16384

noncomputable section

namespace Cert.KernelIdeal.Value

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

/-- The rectangle of a whole [256,128] scratch buffer. -/
abbrev rS : Rect S256x128 := Rect.unit (s := S256x128) ![0, 0] S256x128.size inb_S256x128_S256x128_0_0
/-- The 512 keys that trip `k` of the first pass reads. -/
abbrev rK1 (k : Fin k0_t1_loop.trips) : Rect S1x16384x128 :=
  Rect.unit (s := S1x16384x128) (k0_off3 k) S1x512x128.size (k0_off3_inb k)
/-- The 512 keys that trip `k` of the second pass reads. -/
abbrev rK2 (k : Fin k0_t2_loop.trips) : Rect S1x16384x128 :=
  Rect.unit (s := S1x16384x128) (k0_off4 k) S1x512x128.size (k0_off4_inb k)
/-- The 512 columns of exponentials that trip `k` of the second pass writes. -/
abbrev rE2 (k : Fin k0_t2_loop.trips) : Rect S256x16384 :=
  Rect.unit (s := S256x16384) (k0_off5 k) S256x512.size (k0_off5_inb k)
/-- The 2048 columns of exponentials that trip `k` of the third pass reads. -/
abbrev rE3 (k : Fin k0_t3_loop.trips) : Rect S256x16384 :=
  Rect.unit (s := S256x16384) (k0_off6 k) S256x2048.size (k0_off6_inb k)
/-- The 2048 values that trip `k` of the third pass reads. -/
abbrev rV3 (k : Fin k0_t3_loop.trips) : Rect S1x16384x128 :=
  Rect.unit (s := S1x16384x128) (k0_off7 k) S1x2048x128.size (k0_off7_inb k)

theorem trips1 : k0_t1_loop.trips = 32 := by decide +kernel
theorem trips2 : k0_t2_loop.trips = 32 := by decide +kernel
theorem trips3 : k0_t3_loop.trips = 8 := by decide +kernel
theorem off3_eq : ∀ k : Fin k0_t1_loop.trips, k0_off3 k = ![0, 512 * k.val, 0] := by decide +kernel
theorem off4_eq : ∀ k : Fin k0_t2_loop.trips, k0_off4 k = ![0, 512 * k.val, 0] := by decide +kernel
theorem off5_eq : ∀ k : Fin k0_t2_loop.trips, k0_off5 k = ![0, 512 * k.val] := by decide +kernel
theorem off6_eq : ∀ k : Fin k0_t3_loop.trips, k0_off6 k = ![0, 2048 * k.val] := by decide +kernel
theorem off7_eq : ∀ k : Fin k0_t3_loop.trips, k0_off7 k = ![0, 2048 * k.val, 0] := by decide +kernel

theorem hz2 : (![0, 0] : Fin 2 → Nat) = fun _ => 0 := funext fun a => by fin_cases a <;> rfl
theorem hz3 : (![0, 0, 0] : Fin 3 → Nat) = fun _ => 0 := funext fun a => by fin_cases a <;> rfl

/-- The running maxima after `n` trips of the first pass, from `a`: one per query and lane. -/
def maxAfter (v3 v5 : Elt F .f32) (q : Vec F S1x256x128 .fp8e4m3) (x : Vec F S1x16384x128 .fp8e4m3)
    (a : Vec F S256x128 .f32) : ℕ → Vec F S256x128 .f32
  | 0 => a
  | n + 1 => if h : n < k0_t1_loop.trips then
      k0_pay7 v3 v5 q (View.ld x (rK1 ⟨n, h⟩)) (maxAfter v3 v5 q x a n) else maxAfter v3 v5 q x a n

/-- The running sums after `n` trips of the second pass, from `a`, the scores shifted by the maxima `m`. -/
def sumAfter (v3 v5 : Elt F .f32) (q : Vec F S1x256x128 .fp8e4m3) (m : Vec F S256x128 .f32)
    (x : Vec F S1x16384x128 .fp8e4m3) (a : Vec F S256x128 .f32) : ℕ → Vec F S256x128 .f32
  | 0 => a
  | n + 1 => if h : n < k0_t2_loop.trips then
      k0_pay11 v3 v5 q m (View.ld x (rK2 ⟨n, h⟩)) (sumAfter v3 v5 q m x a n) else sumAfter v3 v5 q m x a n

/-- The trip of the second pass that writes a column. -/
abbrev tripOf (y : S256x16384.Idx) : Fin k0_t2_loop.trips :=
  ⟨(y (1 : Fin 2)).val / 512, by have h : (y (1 : Fin 2)).val < 16384 := (y (1 : Fin 2)).isLt; rw [trips2]; omega⟩
/-- The column's place in what that trip writes. -/
abbrev placeOf (y : S256x16384.Idx) : S256x512.Idx :=
  fun a => ⟨(![(y (0 : Fin 2)).val, (y (1 : Fin 2)).val % 512] : Fin 2 → ℕ) a, by
    have h : (y (0 : Fin 2)).val < 256 := (y (0 : Fin 2)).isLt
    fin_cases a
    · exact h
    · exact Nat.mod_lt _ (by decide : 0 < 512)⟩

/-- The exponentials of all 16384 scores of each of the 256 queries, as the second pass leaves them. -/
def expAt (v3 v5 : Elt F .f32) (q : Vec F S1x256x128 .fp8e4m3) (m : Vec F S256x128 .f32)
    (x : Vec F S1x16384x128 .fp8e4m3) : Vec F S256x16384 .f32 := fun y =>
  (k0_pay10 v3 v5 q m (View.ld x (rK2 (tripOf y))) : Vec F S256x512 .f32) (placeOf y)

/-- The accumulated products after `n` trips of the third pass, from `a`, `l` the sums and `e` the exponentials. -/
def accAfter (l : Vec F S256x128 .f32) (e : Vec F S256x16384 .f32) (v : Vec F S1x16384x128 .fp8e4m3)
    (a : Vec F S256x128 .f32) : ℕ → Vec F S256x128 .f32
  | 0 => a
  | n + 1 => if h : n < k0_t3_loop.trips then
      k0_pay2 l (View.ld e (rE3 ⟨n, h⟩)) (accAfter l e v a n) (View.ld v (rV3 ⟨n, h⟩)) else accAfter l e v a n

/-- The maxima a grid point finds. -/
def maxes (v3 v5 : Elt F .f32) (q : Vec F S1x256x128 .fp8e4m3) (x : Vec F S1x16384x128 .fp8e4m3) : Vec F S256x128 .f32 :=
  maxAfter v3 v5 q x k0_pay6 k0_t1_loop.trips
/-- The sums a grid point finds. -/
def sums (v3 v5 : Elt F .f32) (q : Vec F S1x256x128 .fp8e4m3) (x : Vec F S1x16384x128 .fp8e4m3) : Vec F S256x128 .f32 :=
  sumAfter v3 v5 q (maxes v3 v5 q x) x k0_pay8 k0_t2_loop.trips
/-- The products a grid point accumulates. -/
def accs (v3 v5 : Elt F .f32) (q : Vec F S1x256x128 .fp8e4m3) (x v : Vec F S1x16384x128 .fp8e4m3) : Vec F S256x128 .f32 :=
  accAfter (sums v3 v5 q x) (expAt v3 v5 q (maxes v3 v5 q x) x) v k0_pay1 k0_t3_loop.trips

/-- What a grid point stores: `v3`, `v5`, `v40` its query, key and value scales, `q`, `x`, `v` its queries, keys, values. -/
def out (v3 v5 v40 : Elt F .f32) (q : Vec F S1x256x128 .fp8e4m3) (x v : Vec F S1x16384x128 .fp8e4m3) : Vec F S1x256x128 .bf16 :=
  k0_pay3 (accs v3 v5 q x v) v40

end Cert.KernelIdeal.Value

end
-- ==== Proof.Trips.lean ====
module

public import proofs.«01_k».proof.Proof.Block

@[expose] public section

/-! # What the three loops leave in the scratch buffers

Each loop of the kernel's run leaves a list of stores; here each list is read back as the function of Block.lean that it computes. -/

set_option maxRecDepth 16384

noncomputable section

namespace Cert.KernelIdeal.Value

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

variable (𝒱 : Variants) (c : Dev nD) (bd : Option 𝒱.V) (i : grid0.Coords) (arg4 : Memref sig .tc .smem S32 .f32) (harg4 : arg4.IsWhole) (arg5 : Memref sig .tc .smem S4 .f32) (harg5 : arg5.IsWhole) (arg6 : Memref sig .tc .smem S4 .f32) (harg6 : arg6.IsWhole) (arg7 : Memref sig .tc .vmem S1x256x128 .fp8e4m3) (harg7 : arg7.IsWhole) (arg8 : Memref sig .tc .vmem S1x16384x128 .fp8e4m3) (harg8 : arg8.IsWhole) (arg9 : Memref sig .tc .vmem S1x16384x128 .fp8e4m3) (harg9 : arg9.IsWhole) (arg10 : Memref sig .tc .vmem S1x256x128 .bf16) (harg10 : arg10.IsWhole) (arg11 : Memref sig .tc .vmem S256x16384 .f32) (harg11 : arg11.IsWhole) (arg12 : Memref sig .tc .vmem S256x128 .f32) (harg12 : arg12.IsWhole) (arg13 : Memref sig .tc .vmem S256x128 .f32) (harg13 : arg13.IsWhole)

/-- The one store of a trip of the first pass. -/
theorem tripL1 (v3 v5 : Elt F .f32) (v9 : Vec F S1x256x128 .fp8e4m3) (X : BufTy.Contents (Elt F) arg8.view.ty) (k : Fin k0_t1_loop.trips) (f : BufTy.Contents (Elt F) arg12.view.ty) :
    tripL_k0_t1 (F := F) 𝒱 c bd i arg4 harg4 arg5 harg5 arg6 harg6 arg7 harg7 arg8 harg8 arg9 harg9 arg10 harg10 arg11 harg11 arg12 harg12 arg13 harg13 v3 v5 v9 X k f
      = [⟨rS, k0_pay7 v3 v5 v9 (arg8.view.readAt (Elt F) (rK1 k).toLoadRect X) (arg12.view.readAt (Elt F) rS.toLoadRect f)⟩] := by
  unfold tripL_k0_t1 trip_k0_t1
  sl_unfold_words
  rfl

/-- The two stores of a trip of the second pass. -/
theorem tripL2 (v3 v5 : Elt F .f32) (v9 : Vec F S1x256x128 .fp8e4m3) (v16 : Vec F S256x128 .f32) (X : BufTy.Contents (Elt F) arg8.view.ty) (k : Fin k0_t2_loop.trips) (f11 : BufTy.Contents (Elt F) arg11.view.ty) (f12 : BufTy.Contents (Elt F) arg12.view.ty) :
    tripL_k0_t2 (F := F) 𝒱 c bd i arg4 harg4 arg5 harg5 arg6 harg6 arg7 harg7 arg8 harg8 arg9 harg9 arg10 harg10 arg11 harg11 arg12 harg12 arg13 harg13 v3 v5 v9 v16 X k f11 f12
      = ([⟨rE2 k, k0_pay10 v3 v5 v9 v16 (arg8.view.readAt (Elt F) (rK2 k).toLoadRect X)⟩],
         [⟨rS, k0_pay11 v3 v5 v9 v16 (arg8.view.readAt (Elt F) (rK2 k).toLoadRect X) (arg12.view.readAt (Elt F) rS.toLoadRect f12)⟩]) := by
  unfold tripL_k0_t2 trip_k0_t2
  sl_unfold_words
  rfl

/-- The one store of a trip of the third pass. -/
theorem tripL3 (v26 : Vec F S256x128 .f32) (X9 : BufTy.Contents (Elt F) arg9.view.ty) (X11 : BufTy.Contents (Elt F) arg11.view.ty) (k : Fin k0_t3_loop.trips) (f : BufTy.Contents (Elt F) arg13.view.ty) :
    tripL_k0_t3 (F := F) 𝒱 c bd i arg4 harg4 arg5 harg5 arg6 harg6 arg7 harg7 arg8 harg8 arg9 harg9 arg10 harg10 arg11 harg11 arg12 harg12 arg13 harg13 v26 X9 X11 k f
      = [⟨rS, k0_pay2 v26 (arg11.view.readAt (Elt F) (rE3 k).toLoadRect X11) (arg13.view.readAt (Elt F) rS.toLoadRect f) (arg9.view.readAt (Elt F) (rV3 k).toLoadRect X9)⟩] := by
  unfold tripL_k0_t3 trip_k0_t3
  sl_unfold_words
  rfl

/-- A store of a whole [256,128] buffer, last, is what the buffer reads. -/
theorem read_rS (v : View sig .tc .vmem S256x128 .f32) (f : v.ty.Contents (Elt F)) (w : Vec F S256x128 .f32)
    (L : List (View.Piece (Elt F) S256x128 .f32)) :
    v.read (Elt F) (v.writes (Elt F) f ((⟨rS, w⟩ : View.Piece (Elt F) S256x128 .f32) :: L)) = w := by
  funext y
  exact View.read_writes_cons_unit_of_mem (off' := fun _ => 0) v f _ w L y y hz2 fun a => (Nat.zero_add _).symm

theorem ld_rS (X : Vec F S256x128 .f32) : View.ld X rS = X := View.ld_unit_zero (S := S256x128) hz2 _ X

/-- The maxima the first `n` trips leave. -/
theorem read_pb1 (v3 v5 : Elt F .f32) (v9 : Vec F S1x256x128 .fp8e4m3) (X : BufTy.Contents (Elt F) arg8.view.ty) (G : BufTy.Contents (Elt F) arg12.view.ty) :
    ∀ n : ℕ, n ≤ k0_t1_loop.trips →
    arg12.view.read (Elt F) (arg12.view.writes (Elt F) G (pb_k0_t1 (F := F) 𝒱 c bd i arg4 harg4 arg5 harg5 arg6 harg6 arg7 harg7 arg8 harg8 arg9 harg9 arg10 harg10 arg11 harg11 arg12 harg12 arg13 harg13 v3 v5 v9 X G n))
      = maxAfter v3 v5 v9 (arg8.view.read (Elt F) X) (arg12.view.read (Elt F) G) n
  | 0, _ => rfl
  | n + 1, hn => by
    have ih := read_pb1 v3 v5 v9 X G n (by omega)
    rw [pb_k0_t1_succ (F := F) 𝒱 c bd i arg4 harg4 arg5 harg5 arg6 harg6 arg7 harg7 arg8 harg8 arg9 harg9 arg10 harg10 arg11 harg11 arg12 harg12 arg13 harg13 v3 v5 v9 X G ⟨n, hn⟩, tripL1, List.singleton_append, read_rS, maxAfter, dif_pos (Nat.lt_of_succ_le hn),
      View.readAt_eq_ld, View.readAt_eq_ld, ih, ld_rS]

/-- The sums the first `n` trips of the second pass leave. -/
theorem read_pb2 (v3 v5 : Elt F .f32) (v9 : Vec F S1x256x128 .fp8e4m3) (v16 : Vec F S256x128 .f32) (X : BufTy.Contents (Elt F) arg8.view.ty) (G11 : BufTy.Contents (Elt F) arg11.view.ty) (G : BufTy.Contents (Elt F) arg12.view.ty) :
    ∀ n : ℕ, n ≤ k0_t2_loop.trips →
    arg12.view.read (Elt F) (arg12.view.writes (Elt F) G (pb_k0_t2 (F := F) 𝒱 c bd i arg4 harg4 arg5 harg5 arg6 harg6 arg7 harg7 arg8 harg8 arg9 harg9 arg10 harg10 arg11 harg11 arg12 harg12 arg13 harg13 v3 v5 v9 v16 X G11 G n).2)
      = sumAfter v3 v5 v9 v16 (arg8.view.read (Elt F) X) (arg12.view.read (Elt F) G) n
  | 0, _ => rfl
  | n + 1, hn => by
    have ih := read_pb2 v3 v5 v9 v16 X G11 G n (by omega)
    rw [pb_k0_t2_succ (F := F) 𝒱 c bd i arg4 harg4 arg5 harg5 arg6 harg6 arg7 harg7 arg8 harg8 arg9 harg9 arg10 harg10 arg11 harg11 arg12 harg12 arg13 harg13 v3 v5 v9 v16 X G11 G ⟨n, hn⟩, tripL2]
    dsimp only
    rw [List.singleton_append, read_rS, sumAfter, dif_pos (Nat.lt_of_succ_le hn), View.readAt_eq_ld, View.readAt_eq_ld, ih, ld_rS]

/-- The accumulator the first `n` trips of the third pass leave. -/
theorem read_pb3 (v26 : Vec F S256x128 .f32) (X9 : BufTy.Contents (Elt F) arg9.view.ty) (X11 : BufTy.Contents (Elt F) arg11.view.ty) (G : BufTy.Contents (Elt F) arg13.view.ty) :
    ∀ n : ℕ, n ≤ k0_t3_loop.trips →
    arg13.view.read (Elt F) (arg13.view.writes (Elt F) G (pb_k0_t3 (F := F) 𝒱 c bd i arg4 harg4 arg5 harg5 arg6 harg6 arg7 harg7 arg8 harg8 arg9 harg9 arg10 harg10 arg11 harg11 arg12 harg12 arg13 harg13 v26 X9 X11 G n))
      = accAfter v26 (arg11.view.read (Elt F) X11) (arg9.view.read (Elt F) X9) (arg13.view.read (Elt F) G) n
  | 0, _ => rfl
  | n + 1, hn => by
    have ih := read_pb3 v26 X9 X11 G n (by omega)
    rw [pb_k0_t3_succ (F := F) 𝒱 c bd i arg4 harg4 arg5 harg5 arg6 harg6 arg7 harg7 arg8 harg8 arg9 harg9 arg10 harg10 arg11 harg11 arg12 harg12 arg13 harg13 v26 X9 X11 G ⟨n, hn⟩, tripL3, List.singleton_append, read_rS, accAfter, dif_pos (Nat.lt_of_succ_le hn),
      View.readAt_eq_ld, View.readAt_eq_ld, View.readAt_eq_ld, ih, ld_rS]

/-- The store of trip `k` of the second pass into the exponentials. -/
abbrev pieceE (v3 v5 : Elt F .f32) (v9 : Vec F S1x256x128 .fp8e4m3) (v16 : Vec F S256x128 .f32) (x : Vec F S1x16384x128 .fp8e4m3)
    (k : Fin k0_t2_loop.trips) : View.Piece (Elt F) S256x16384 .f32 := ⟨rE2 k, k0_pay10 v3 v5 v9 v16 (View.ld x (rK2 k))⟩

/-- The stores of the first `n` trips of the second pass into the exponentials are those trips', no other. -/
theorem mem_pb2 (v3 v5 : Elt F .f32) (v9 : Vec F S1x256x128 .fp8e4m3) (v16 : Vec F S256x128 .f32) (X : BufTy.Contents (Elt F) arg8.view.ty) (G11 : BufTy.Contents (Elt F) arg11.view.ty) (G : BufTy.Contents (Elt F) arg12.view.ty) (p : View.Piece (Elt F) S256x16384 .f32) :
    ∀ n : ℕ, n ≤ k0_t2_loop.trips →
    (p ∈ (pb_k0_t2 (F := F) 𝒱 c bd i arg4 harg4 arg5 harg5 arg6 harg6 arg7 harg7 arg8 harg8 arg9 harg9 arg10 harg10 arg11 harg11 arg12 harg12 arg13 harg13 v3 v5 v9 v16 X G11 G n).1
      ↔ ∃ k : Fin k0_t2_loop.trips, k.val < n ∧ p = pieceE v3 v5 v9 v16 (arg8.view.read (Elt F) X) k)
  | 0, _ => by
    constructor
    · intro h; exact absurd h List.not_mem_nil
    · rintro ⟨k, hk, _⟩; omega
  | n + 1, hn => by
    have ih := mem_pb2 v3 v5 v9 v16 X G11 G p n (by omega)
    rw [pb_k0_t2_succ (F := F) 𝒱 c bd i arg4 harg4 arg5 harg5 arg6 harg6 arg7 harg7 arg8 harg8 arg9 harg9 arg10 harg10 arg11 harg11 arg12 harg12 arg13 harg13 v3 v5 v9 v16 X G11 G ⟨n, hn⟩, tripL2]
    dsimp only
    rw [List.singleton_append, List.mem_cons, ih, View.readAt_eq_ld]
    constructor
    · rintro (h | ⟨k, hk, h⟩)
      · exact ⟨⟨n, hn⟩, Nat.lt_succ_self n, h⟩
      · exact ⟨k, by omega, h⟩
    · rintro ⟨k, hk, h⟩
      by_cases e : k.val = n
      · obtain rfl : k = ⟨n, hn⟩ := Fin.ext e
        exact Or.inl h
      · exact Or.inr ⟨k, by omega, h⟩

/-- After the second pass the exponentials' buffer holds them all, whatever it held before. -/
theorem read_exp (v3 v5 : Elt F .f32) (v9 : Vec F S1x256x128 .fp8e4m3) (v16 : Vec F S256x128 .f32) (X : BufTy.Contents (Elt F) arg8.view.ty) (G11 : BufTy.Contents (Elt F) arg11.view.ty) (G : BufTy.Contents (Elt F) arg12.view.ty) :
    arg11.view.read (Elt F) (arg11.view.writes (Elt F) G11 (pb_k0_t2 (F := F) 𝒱 c bd i arg4 harg4 arg5 harg5 arg6 harg6 arg7 harg7 arg8 harg8 arg9 harg9 arg10 harg10 arg11 harg11 arg12 harg12 arg13 harg13 v3 v5 v9 v16 X G11 G k0_t2_loop.trips).1)
      = expAt v3 v5 v9 v16 (arg8.view.read (Elt F) X) := by
  funext y
  refine View.read_writes_apply_of_pieces _ _ _ _ ?_ y ?_
  · intro p hp x
    obtain ⟨k, hk, rfl⟩ := (mem_pb2 𝒱 c bd i arg4 harg4 arg5 harg5 arg6 harg6 arg7 harg7 arg8 harg8 arg9 harg9 arg10 harg10 arg11 harg11 arg12 harg12 arg13 harg13 v3 v5 v9 v16 X G11 G p _ le_rfl).mp hp
    have hx1 : (x (1 : Fin 2)).val < 512 := (x (1 : Fin 2)).isLt
    have e0 : ((rE2 k).emb x (0 : Fin 2)).val = (x (0 : Fin 2)).val := by
      show k0_off5 k (0 : Fin 2) + 1 * (x (0 : Fin 2)).val = _
      rw [off5_eq]; show 0 + 1 * (x (0 : Fin 2)).val = _; omega
    have e1 : ((rE2 k).emb x (1 : Fin 2)).val = 512 * k.val + (x (1 : Fin 2)).val := by
      show k0_off5 k (1 : Fin 2) + 1 * (x (1 : Fin 2)).val = _
      rw [off5_eq]; show 512 * k.val + 1 * (x (1 : Fin 2)).val = _; omega
    have ek : tripOf ((rE2 k).emb x) = k := Fin.ext (by show ((rE2 k).emb x (1 : Fin 2)).val / 512 = k.val; omega)
    have ex : placeOf ((rE2 k).emb x) = x := funext fun a => Fin.ext (by
      fin_cases a
      · show ((rE2 k).emb x (0 : Fin 2)).val = (x (0 : Fin 2)).val; omega
      · show ((rE2 k).emb x (1 : Fin 2)).val % 512 = (x (1 : Fin 2)).val; omega)
    show (k0_pay10 v3 v5 v9 v16 (View.ld (arg8.view.read (Elt F) X) (rK2 k)) : Vec F S256x512 .f32) x
      = (k0_pay10 v3 v5 v9 v16 (View.ld (arg8.view.read (Elt F) X) (rK2 (tripOf ((rE2 k).emb x)))) : Vec F S256x512 .f32) (placeOf ((rE2 k).emb x))
    rw [ek, ex]
  · refine ⟨_, (mem_pb2 𝒱 c bd i arg4 harg4 arg5 harg5 arg6 harg6 arg7 harg7 arg8 harg8 arg9 harg9 arg10 harg10 arg11 harg11 arg12 harg12 arg13 harg13 v3 v5 v9 v16 X G11 G _ _ le_rfl).mpr ⟨tripOf y, (tripOf y).isLt, rfl⟩, ?_⟩
    show y ∈ (rE2 (tripOf y)).set
    rw [Rect.mem_set_unit, off5_eq]
    have hy0 : (y (0 : Fin 2)).val < 256 := (y (0 : Fin 2)).isLt
    have hy1 : (y (1 : Fin 2)).val < 16384 := (y (1 : Fin 2)).isLt
    refine Fin.forall_fin_two.mpr ⟨⟨Nat.zero_le _, ?_⟩, ?_, ?_⟩
    · show (y (0 : Fin 2)).val < 0 + 256; omega
    · show 512 * ((y (1 : Fin 2)).val / 512) ≤ (y (1 : Fin 2)).val; omega
    · show (y (1 : Fin 2)).val < 512 * ((y (1 : Fin 2)).val / 512) + 512; omega

/-- What a load of the whole buffer reads after the stores `L`. -/
theorem readCov_rS (v : View sig .tc .vmem S256x128 .f32) (L : List (View.Piece (Elt F) S256x128 .f32)) :
    v.readCov L rS.toLoadRect = v.read (Elt F) (v.writes (Elt F) v.junk L) := ld_rS _

theorem cov1 (v3 v5 : Elt F .f32) (v9 : Vec F S1x256x128 .fp8e4m3) (X : BufTy.Contents (Elt F) arg8.view.ty) (a : Vec F S256x128 .f32) (L : List (View.Piece (Elt F) S256x128 .f32)) :
    arg12.view.readCov (pb_k0_t1 (F := F) 𝒱 c bd i arg4 harg4 arg5 harg5 arg6 harg6 arg7 harg7 arg8 harg8 arg9 harg9 arg10 harg10 arg11 harg11 arg12 harg12 arg13 harg13 v3 v5 v9 X (arg12.view.writes (Elt F) arg12.view.junk (⟨rS, a⟩ :: L)) k0_t1_loop.trips ++ (⟨rS, a⟩ :: L)) rS.toLoadRect
      = maxAfter v3 v5 v9 (arg8.view.read (Elt F) X) a k0_t1_loop.trips := by
  rw [readCov_rS, View.writes_append, read_pb1 𝒱 c bd i arg4 harg4 arg5 harg5 arg6 harg6 arg7 harg7 arg8 harg8 arg9 harg9 arg10 harg10 arg11 harg11 arg12 harg12 arg13 harg13 v3 v5 v9 X _ _ le_rfl, read_rS]

theorem cov2 (v3 v5 : Elt F .f32) (v9 : Vec F S1x256x128 .fp8e4m3) (v16 : Vec F S256x128 .f32) (X : BufTy.Contents (Elt F) arg8.view.ty) (G11 : BufTy.Contents (Elt F) arg11.view.ty) (a : Vec F S256x128 .f32) (L : List (View.Piece (Elt F) S256x128 .f32)) :
    arg12.view.readCov ((pb_k0_t2 (F := F) 𝒱 c bd i arg4 harg4 arg5 harg5 arg6 harg6 arg7 harg7 arg8 harg8 arg9 harg9 arg10 harg10 arg11 harg11 arg12 harg12 arg13 harg13 v3 v5 v9 v16 X G11 (arg12.view.writes (Elt F) arg12.view.junk (⟨rS, a⟩ :: L)) k0_t2_loop.trips).2 ++ (⟨rS, a⟩ :: L)) rS.toLoadRect
      = sumAfter v3 v5 v9 v16 (arg8.view.read (Elt F) X) a k0_t2_loop.trips := by
  rw [readCov_rS, View.writes_append, read_pb2 𝒱 c bd i arg4 harg4 arg5 harg5 arg6 harg6 arg7 harg7 arg8 harg8 arg9 harg9 arg10 harg10 arg11 harg11 arg12 harg12 arg13 harg13 v3 v5 v9 v16 X G11 _ _ le_rfl, read_rS]

theorem cov3 (v26 : Vec F S256x128 .f32) (X9 : BufTy.Contents (Elt F) arg9.view.ty) (X11 : BufTy.Contents (Elt F) arg11.view.ty) (a : Vec F S256x128 .f32) (L : List (View.Piece (Elt F) S256x128 .f32)) :
    arg13.view.readCov (pb_k0_t3 (F := F) 𝒱 c bd i arg4 harg4 arg5 harg5 arg6 harg6 arg7 harg7 arg8 harg8 arg9 harg9 arg10 harg10 arg11 harg11 arg12 harg12 arg13 harg13 v26 X9 X11 (arg13.view.writes (Elt F) arg13.view.junk (⟨rS, a⟩ :: L)) k0_t3_loop.trips ++ (⟨rS, a⟩ :: L)) rS.toLoadRect
      = accAfter v26 (arg11.view.read (Elt F) X11) (arg9.view.read (Elt F) X9) a k0_t3_loop.trips := by
  rw [readCov_rS, View.writes_append, read_pb3 𝒱 c bd i arg4 harg4 arg5 harg5 arg6 harg6 arg7 harg7 arg8 harg8 arg9 harg9 arg10 harg10 arg11 harg11 arg12 harg12 arg13 harg13 v26 X9 X11 _ _ le_rfl, read_rS]

/-- The stores of the first pass. -/
abbrev L1 (v3 v5 : Elt F .f32) (v9 : Vec F S1x256x128 .fp8e4m3) (X : BufTy.Contents (Elt F) arg8.view.ty) : List (View.Piece (Elt F) S256x128 .f32) :=
  pb_k0_t1 (F := F) 𝒱 c bd i arg4 harg4 arg5 harg5 arg6 harg6 arg7 harg7 arg8 harg8 arg9 harg9 arg10 harg10 arg11 harg11 arg12 harg12 arg13 harg13 v3 v5 v9 X (arg12.view.writes (Elt F) arg12.view.junk [⟨rS, k0_pay6⟩]) k0_t1_loop.trips ++ [⟨rS, k0_pay6⟩]

/-- The three passes together: the accumulator after them, whatever the exponentials' buffer held before. -/
theorem cov (v3 v5 : Elt F .f32) (v9 : Vec F S1x256x128 .fp8e4m3) (X8 : BufTy.Contents (Elt F) arg8.view.ty) (X9 : BufTy.Contents (Elt F) arg9.view.ty) (G11 : BufTy.Contents (Elt F) arg11.view.ty)
    (L : List (View.Piece (Elt F) S256x128 .f32)) (hL : L = L1 𝒱 c bd i arg4 harg4 arg5 harg5 arg6 harg6 arg7 harg7 arg8 harg8 arg9 harg9 arg10 harg10 arg11 harg11 arg12 harg12 arg13 harg13 v3 v5 v9 X8)
    (v16 : Vec F S256x128 .f32) (h16 : v16 = arg12.view.readCov L rS.toLoadRect)
    (P : List (View.Piece (Elt F) S256x16384 .f32) × List (View.Piece (Elt F) S256x128 .f32))
    (hP : P = pb_k0_t2 (F := F) 𝒱 c bd i arg4 harg4 arg5 harg5 arg6 harg6 arg7 harg7 arg8 harg8 arg9 harg9 arg10 harg10 arg11 harg11 arg12 harg12 arg13 harg13 v3 v5 v9 v16 X8 G11 (arg12.view.writes (Elt F) arg12.view.junk (⟨rS, k0_pay8⟩ :: L)) k0_t2_loop.trips)
    (v26 : Vec F S256x128 .f32) (h26 : v26 = arg12.view.readCov (P.2 ++ (⟨rS, k0_pay8⟩ :: L)) rS.toLoadRect) :
    arg13.view.readCov (pb_k0_t3 (F := F) 𝒱 c bd i arg4 harg4 arg5 harg5 arg6 harg6 arg7 harg7 arg8 harg8 arg9 harg9 arg10 harg10 arg11 harg11 arg12 harg12 arg13 harg13 v26 X9 (arg11.view.writes (Elt F) G11 P.1) (arg13.view.writes (Elt F) arg13.view.junk [⟨rS, k0_pay1⟩]) k0_t3_loop.trips ++ [⟨rS, k0_pay1⟩]) rS.toLoadRect
      = accs v3 v5 v9 (arg8.view.read (Elt F) X8) (arg9.view.read (Elt F) X9) := by
  subst hL
  rw [cov1 𝒱 c bd i arg4 harg4 arg5 harg5 arg6 harg6 arg7 harg7 arg8 harg8 arg9 harg9 arg10 harg10 arg11 harg11 arg12 harg12 arg13 harg13 v3 v5 v9 X8 k0_pay6 []] at h16
  subst h16
  subst hP
  rw [cov2 𝒱 c bd i arg4 harg4 arg5 harg5 arg6 harg6 arg7 harg7 arg8 harg8 arg9 harg9 arg10 harg10 arg11 harg11 arg12 harg12 arg13 harg13 v3 v5 v9 _ X8 G11 k0_pay8 _] at h26
  subst h26
  rw [cov3 𝒱 c bd i arg4 harg4 arg5 harg5 arg6 harg6 arg7 harg7 arg8 harg8 arg9 harg9 arg10 harg10 arg11 harg11 arg12 harg12 arg13 harg13 _ X9 _ k0_pay1 [], read_exp]
  rfl

end Cert.KernelIdeal.Value

end
-- ==== Proof.Body.lean ====
module

public import proofs.«01_k».proof.Proof.Trips

@[expose] public section

/-! # One run of the kernel's body

The body, on whole staging buffers, stores `out` of its blocks (Block.lean) in the output's and leaves the inputs' as they were. -/

set_option maxRecDepth 16384

noncomputable section

namespace Cert.KernelIdeal.Value

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- The entry of the query scales that a grid point loads. -/
def scaleQ (i : grid0.Coords) (x : Vec F S32 .f32) : Elt F .f32 :=
  View.ld x (Rect.unit (s := S32) (k0_off1 i) S1.size (k0_off1_inb i)) (Shape.Idx.first (numel1_S1.symm ▸ Nat.one_pos))
/-- The entry of the key or the value scales that a grid point loads. -/
def scaleKV (i : grid0.Coords) (x : Vec F S4 .f32) : Elt F .f32 :=
  View.ld x (Rect.unit (s := S4) (k0_off2 i) S1.size (k0_off2_inb i)) (Shape.Idx.first (numel1_S1.symm ▸ Nat.one_pos))

/-- What the grid point at coordinates `i` stores, of its six input blocks. -/
def blockOut (i : grid0.Coords) (x0 : Vec F S32 .f32) (x1 x2 : Vec F S4 .f32) (x3 : Vec F S1x256x128 .fp8e4m3)
    (x4 x5 : Vec F S1x16384x128 .fp8e4m3) : Vec F S1x256x128 .bf16 :=
  out (scaleQ i x0) (scaleKV i x1) (scaleKV i x2) x3 x4 x5

/-- The one store into the output's buffer is what it reads. -/
theorem read_r3 (v : View sig .tc .vmem S1x256x128 .bf16) (f : v.ty.Contents (Elt F)) (w : Vec F S1x256x128 .bf16)
    (inb : ∀ a, (![0, 0, 0] : Fin 3 → ℕ) a + S1x256x128.size a ≤ S1x256x128.size a) :
    v.read (Elt F) (v.writes (Elt F) f [(⟨Rect.unit ![0, 0, 0] S1x256x128.size inb, w⟩ : View.Piece (Elt F) S1x256x128 .bf16)]) = w := by
  funext y
  exact View.read_writes_cons_unit_of_mem (off' := fun _ => 0) v f inb w [] y y hz3 fun a => (Nat.zero_add _).symm

set_option maxHeartbeats 1000000 in
/-- The body's triple: on whole staging memrefs — the inputs' at their contents,
    the FORGOTTEN outputs' (6) at anything, handed back at some contents nothing names —
    the body runs to the continuation holding the inputs' as they were, the scratch at some contents: the printed functions are their skeletons (`Gen.*_eq_skeleton`),
    which `sl_exec` runs (Lib/Exec.lean). -/
theorem kernelRun0_A (c : Dev nD) (i : grid0.Coords) (arg4 : Memref sig .tc .smem S32 .f32) (harg4 : arg4.IsWhole) (arg5 : Memref sig .tc .smem S4 .f32) (harg5 : arg5.IsWhole) (arg6 : Memref sig .tc .smem S4 .f32) (harg6 : arg6.IsWhole) (arg7 : Memref sig .tc .vmem S1x256x128 .fp8e4m3) (harg7 : arg7.IsWhole) (arg8 : Memref sig .tc .vmem S1x16384x128 .fp8e4m3) (harg8 : arg8.IsWhole) (arg9 : Memref sig .tc .vmem S1x16384x128 .fp8e4m3) (harg9 : arg9.IsWhole) (arg10 : Memref sig .tc .vmem S1x256x128 .bf16) (harg10 : arg10.IsWhole) (arg11 : Memref sig .tc .vmem S256x16384 .f32) (harg11 : arg11.IsWhole) (arg12 : Memref sig .tc .vmem S256x128 .f32) (harg12 : arg12.IsWhole) (arg13 : Memref sig .tc .vmem S256x128 .f32) (harg13 : arg13.IsWhole)
    (x0 : Vec F S32 .f32) (x1 : Vec F S4 .f32) (x2 : Vec F S4 .f32) (x3 : Vec F S1x256x128 .fp8e4m3) (x4 : Vec F S1x16384x128 .fp8e4m3) (x5 : Vec F S1x16384x128 .fp8e4m3) :
      ∀ (E : Set ℕ) (K : PUnit → sProp 𝕄),
        iprop(owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare x4 ∗ owns (c : Thread nD τ) arg9 fullShare x5 ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d)
            ∗ (iprop(owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare x4 ∗ owns (c : Thread nD τ) arg9 fullShare x5 ∗ owns (c : Thread nD τ) arg10 fullShare (blockOut i x0 x1 x2 x3 x4 x5) ∗ (∃ d, owns (c : Thread nD τ) arg11 fullShare d) ∗ (∃ d, owns (c : Thread nD τ) arg12 fullShare d) ∗ (∃ d, owns (c : Thread nD τ) arg13 fullShare d)) -∗ K ⟨⟩))
          ⊢ wp frame (wpE (defs₀ (F := F)) Variants.none c none) E (cc0__attend i arg4 harg4 arg5 harg5 arg6 harg6 arg7 harg7 arg8 harg8 arg9 harg9 arg10 harg10 arg11 harg11 arg12 harg12 arg13 harg13) K := by
    intro E K
    simp only [cc0__attend_eq_skeleton]; unfold cc0__attend_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%ds0, %fs0, -, HS0⟩, ⟨%ds1, %fs1, -, HS1⟩, ⟨%ds2, %fs2, -, HS2⟩, Hk⟩
    obtain rfl := harg4.eq_unread hf0; obtain rfl := harg5.eq_unread hf1; obtain rfl := harg6.eq_unread hf2; obtain rfl := harg7.eq_unread hf3; obtain rfl := harg8.eq_unread hf4; obtain rfl := harg9.eq_unread hf5
    sl_exec
    sl_step
    iapply Hk
    isplitl [H0]
    · iexists _; isplitr; · ipureintro; exact harg4.read_unread _
      iexact H0
    isplitl [H1]
    · iexists _; isplitr; · ipureintro; exact harg5.read_unread _
      iexact H1
    isplitl [H2]
    · iexists _; isplitr; · ipureintro; exact harg6.read_unread _
      iexact H2
    isplitl [H3]
    · iexists _; isplitr; · ipureintro; exact harg7.read_unread _
      iexact H3
    isplitl [H4]
    · iexists _; isplitr; · ipureintro; exact harg8.read_unread _
      iexact H4
    isplitl [H5]
    · iexists _; isplitr; · ipureintro; exact harg9.read_unread _
      iexact H5
    isplitl [H6]
    · iexists _; isplitr; swap; · iexact H6
      ipureintro
      sl_unfold_words
      refine (read_r3 _ _ _ _).trans ?_
      refine congrArg₂ k0_pay3 ((cov Variants.none c none i _ harg4 _ harg5 _ harg6 _ harg7 _ harg8 _ harg9 _ harg10 _ harg11 _ harg12 _ harg13
        _ _ _ _ _ fs0 _ rfl _ rfl _ rfl _ rfl).trans ?_) ?_
      · rw [View.readAt_eq_ld, View.readAt_eq_ld, View.readAt_eq_ld, harg4.read_unread, harg5.read_unread, harg7.read_unread,
          harg8.read_unread, harg9.read_unread, View.ld_unit_zero (S := S1x256x128) hz3]
        rfl
      · rw [View.readAt_eq_ld, harg6.read_unread]
        rfl
    isplitl [HS0]
    · iexists _, _; isplitr; swap; · iexact HS0
      ipureintro; rfl
    isplitl [HS1]
    · iexists _, _; isplitr; swap; · iexact HS1
      ipureintro; rfl
    iexists _, _; isplitr; swap; · iexact HS2
    ipureintro; rfl

end Cert.KernelIdeal.Value

end
-- ==== Proof.Run.lean ====
module

public import proofs.«01_k».proof.Proof.Body
public import Idealize.ShloMosaic.Lib.Claim

@[expose] public section

/-! # The run of the kernel over its grid

The proof data of the pipeline: every grid point leaves `blockOut` of its blocks in the output's staging buffer (Body.lean). From it
the run, with every array named, and the frame claim of the idealized kernel. -/

set_option maxRecDepth 16384

noncomputable section

namespace Cert.KernelIdeal.Value

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

abbrev scM0_0 : Memref sig .tc .vmem S256x16384 .f32 := Memref.whole cc0_scratch0
abbrev scM0_1 : Memref sig .tc .vmem S256x128 .f32 := Memref.whole cc0_scratch1
abbrev scM0_2 : Memref sig .tc .vmem S256x128 .f32 := Memref.whole cc0_scratch2

/-- The invariant between points: the three scratch buffers at some contents, and the generator register. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d)) ∗ (∃ r, prngReg c r)) := by
  unfold Pipeline.ΦA; rw [scopedRest0_eq]; simp only [scM0_0, scM0_1, scM0_2, owns_whole]; try rfl

/-- The proof data: the arrays as the region finds them; after the body at point `t` each input's buffer at its block and the
    output's at `blockOut` of the input blocks. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => blockOut (grid0.coords t) (iblk m c 0 t) (iblk m c 1 t) (iblk m c 2 t) (iblk m c 3 t) (iblk m c 4 t) (iblk m c 5 t)
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]

theorem after0_6 (c : Dev nD) (t : Fin cfg0.N) : (dats m 0 c).after 6 t = blockOut (grid0.coords t) (iblk m c 0 t) (iblk m c 1 t) (iblk m c 2 t) (iblk m c 3 t) (iblk m c 4 t) (iblk m c 5 t) := by dsimp only [dats]

/-- Each input's current staging buffer holds its block at every point, fetched there or not. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

/-! ## The body obligation, at a generic point -/

/-- What the body is called with at point `t` (the windows one by one), -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t))

set_option maxHeartbeats 800000 in
set_option maxHeartbeats 800000 in
/-- The body at any point: the inputs' buffers hold their blocks, so the body's run applies; the scratch buffers come at some contents
    and go back at some contents; the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6]
  rw [show (dats m 0 c).Φ t.castSucc = Pipeline.ΦA spec0 c from rfl, PhiA0_eq]
  iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩⟩
  iapply ((kernelRun0_A c (grid0.coords t) _ _ _ _ _ _ _ _ _ _ _ _ _ _ _ _ _ _ _ _ (iblk m c 0 t) (iblk m c 1 t) (iblk m c 2 t) (iblk m c 3 t) (iblk m c 4 t) (iblk m c 5 t)) Set.univ _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [HS0]; · iexact HS0
  isplitl [HS1]; · iexact HS1
  isplitl [HS2]; · iexact HS2
  iintro ⟨H0, H1, H2, H3, H4, H5, H6, HS0, HS1, HS2⟩
  isplitl [HS0 HS1 HS2 Hg]
  · isplitl [HS0 HS1 HS2]
    · isplitl [HS0]
      · iexact HS0
      isplitl [HS1]
      · iexact HS1
      iexact HS2
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

set_option backward.isDefEq.respectTransparency.types false in
set_option maxHeartbeats 800000 in
/-- The launch: every array at what the pipeline's data computes, every semaphore counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

theorem run_main : θ_run defs (onTc (τ := τ) (main (F := F))) (s₀ m ρ) (Pipeline.FramePost cfgs (dats m) 0 (V m)) :=
  (θ_run defs _ _).mono (fun _ h => h.1) (run_main_quiescent m ρ)

/-- The argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ (dats m) (A_eq m) (run_main m ρ)

/-- The frame claim of the idealized kernel. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (unchanged m ρ) ((θ_run defs _ _).mono (fun _ h => h.2) (run_main_quiescent m ρ))

end Cert.KernelIdeal.Value

end
-- ==== Proof.Result.lean ====
module

public import proofs.«01_k».proof.Proof.Run
public import Idealize.ShloMosaic.Lib.Pointwise
public import Idealize.ShloMosaic.Lib.Pipeline.Covers

@[expose] public section

/-! # What the output array holds after the run

Each grid point's blocks as parts of the argument arrays, the output blocks put together, and the run read at the output array. -/

set_option maxRecDepth 16384

noncomputable section

namespace Cert.KernelIdeal.Value

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

variable (m : (ℓ : Loc nD τ sig) → Buf (Elt F) ℓ) (ρ : Dev nD → PrngReg)

theorem i0_lt (i : grid0.Coords) : (i 0).val < 2 := (i 0).isLt
theorem i1_lt (i : grid0.Coords) : (i 1).val < 4 := (i 1).isLt
theorem i2_lt (i : grid0.Coords) : (i 2).val < 8 := (i 2).isLt
theorem i3_lt (i : grid0.Coords) : (i 3).val < 64 := (i 3).isLt

/-- The queries of a grid point: batch `i 0`, rows `256 * i 3 ..`, head `8 * i 1 + i 2`. -/
def qBlock (i : grid0.Coords) (A : Vec F S2x16384x4096 .fp8e4m3) : Vec F S1x256x128 .fp8e4m3 := fun y =>
  A (ix3 (⟨(i 0).val, i0_lt i⟩ : Fin 2)
    (⟨256 * (i 3).val + (y (1 : Fin 3)).val, by have := i3_lt i; have h : (y (1 : Fin 3)).val < 256 := (y (1 : Fin 3)).isLt; omega⟩ : Fin 16384)
    (⟨128 * (8 * (i 1).val + (i 2).val) + (y (2 : Fin 3)).val, by
      have := i1_lt i; have := i2_lt i; have h : (y (2 : Fin 3)).val < 128 := (y (2 : Fin 3)).isLt; omega⟩ : Fin 4096))

/-- The keys or the values of a grid point: batch `i 0`, all rows, key head `i 1`. -/
def kvBlock (i : grid0.Coords) (A : Vec F S2x16384x512 .fp8e4m3) : Vec F S1x16384x128 .fp8e4m3 := fun y =>
  A (ix3 (⟨(i 0).val, i0_lt i⟩ : Fin 2) (⟨(y (1 : Fin 3)).val, (y (1 : Fin 3)).isLt⟩ : Fin 16384)
    (⟨128 * (i 1).val + (y (2 : Fin 3)).val, by
      have := i1_lt i; have h : (y (2 : Fin 3)).val < 128 := (y (2 : Fin 3)).isLt; omega⟩ : Fin 512))

theorem toNat_ofNat_lt {n : ℕ} (h : n < 64) : (BitVec.ofNat 32 n).toNat = n := by
  rw [BitVec.toNat_ofNat]; exact Nat.mod_eq_of_lt (by omega)

theorem head_toNat {a b : ℕ} (ha : a < 4) (hb : b < 8) :
    (Scalar.addi (Scalar.muli (BitVec.ofNat 32 a) 8#32) (BitVec.ofNat 32 b)).toNat = 8 * a + b := by
  have h1 : Affine.IsInt (BitVec.ofNat 32 a) ((a : Int)) := Affine.ofNat _ (by omega)
  have h2 : Affine.IsInt 8#32 (8) := Affine.ofNat _ (by omega)
  have h3 : Affine.IsInt (BitVec.ofNat 32 b) ((b : Int)) := Affine.ofNat _ (by omega)
  have h4 : Affine.IsInt (Scalar.muli (BitVec.ofNat 32 a) 8#32) (8 * (a : Int)) := Affine.muli h1 h2 (by omega)
  have h5 : Affine.IsInt (Scalar.addi (Scalar.muli (BitVec.ofNat 32 a) 8#32) (BitVec.ofNat 32 b)) (8 * (a : Int) + (b : Int)) :=
    Affine.addi h4 h3 (by omega)
  have := Affine.toNat_of h5 (by omega)
  omega

theorem t3_eq (i : grid0.Coords) : cc0_transform_3 i = ![(i 0).val, (i 3).val, 8 * (i 1).val + (i 2).val] := by
  have h0 := i0_lt i; have h3 := i3_lt i
  show ![(BitVec.ofNat 32 (i 0).val).toNat, (BitVec.ofNat 32 (i 3).val).toNat,
    (Scalar.addi (Scalar.muli (BitVec.ofNat 32 (i 1).val) 8#32) (BitVec.ofNat 32 (i 2).val)).toNat] = _
  rw [toNat_ofNat_lt (by omega), toNat_ofNat_lt h3, head_toNat (i1_lt i) (i2_lt i)]
theorem t6_eq (i : grid0.Coords) : cc0_transform_6 i = ![(i 0).val, (i 3).val, 8 * (i 1).val + (i 2).val] := t3_eq i
theorem t4_eq (i : grid0.Coords) : cc0_transform_4 i = ![(i 0).val, 0, (i 1).val] := by
  have h0 := i0_lt i; have h1 := i1_lt i
  show ![(BitVec.ofNat 32 (i 0).val).toNat, (0#32).toNat, (BitVec.ofNat 32 (i 1).val).toNat] = _
  rw [toNat_ofNat_lt (n := (i 0).val) (by omega), toNat_ofNat_lt (n := (i 1).val) (by omega)]; rfl
theorem t5_eq (i : grid0.Coords) : cc0_transform_5 i = ![(i 0).val, 0, (i 1).val] := t4_eq i

theorem off1_eq (i : grid0.Coords) : k0_off1 i = ![8 * (i 1).val + (i 2).val] := by
  show ![(Scalar.indexCast (Scalar.addi (Scalar.muli (BitVec.ofNat 32 (i 1).val) 8#32) (BitVec.ofNat 32 (i 2).val))).toNat] = _
  exact congrArg (fun n => ![n]) (head_toNat (i1_lt i) (i2_lt i))
theorem off2_eq (i : grid0.Coords) : k0_off2 i = ![(i 1).val] := by
  have h1 := i1_lt i
  show ![(Scalar.indexCast (BitVec.ofNat 32 (i 1).val)).toNat] = _
  exact congrArg (fun n => ![n]) (toNat_ofNat_lt (by omega))

/-- The query scale of a grid point is its head's. -/
theorem scaleQ_eq (i : grid0.Coords) (x : Vec F S32 .f32) :
    scaleQ i x = x (ix1 (⟨8 * (i 1).val + (i 2).val, by have := i1_lt i; have := i2_lt i; omega⟩ : Fin 32)) := by
  unfold scaleQ
  refine congrArg x (funext fun a => Fin.ext ?_)
  fin_cases a
  show k0_off1 i 0 + 1 * 0 = 8 * (i 1).val + (i 2).val
  rw [off1_eq]; rfl
/-- The key or value scale of a grid point is its key head's. -/
theorem scaleKV_eq (i : grid0.Coords) (x : Vec F S4 .f32) :
    scaleKV i x = x (ix1 (⟨(i 1).val, i1_lt i⟩ : Fin 4)) := by
  unfold scaleKV
  refine congrArg x (funext fun a => Fin.ext ?_)
  fin_cases a
  show k0_off2 i 0 + 1 * 0 = (i 1).val
  rw [off2_eq]; rfl

theorem iblk0 (c : Dev nD) (t : Fin cfg0.N) : (iblk m c 0 t : Vec F S32 .f32) = m ((c : Thread nD τ).loc main_arg3) := by
  funext j
  unfold iblk
  rw [View.read_apply]
  show V m c main_arg3 _ = m (c.tc.loc main_arg3) _
  unfold V
  congr 1
  funext a
  apply Fin.ext
  fin_cases a
  show 0 * 32 + 1 * (j 0).val = (j 0).val; omega
theorem iblk1 (c : Dev nD) (t : Fin cfg0.N) : (iblk m c 1 t : Vec F S4 .f32) = m ((c : Thread nD τ).loc main_arg4) := by
  funext j
  unfold iblk
  rw [View.read_apply]
  show V m c main_arg4 _ = m (c.tc.loc main_arg4) _
  unfold V
  congr 1
  funext a
  apply Fin.ext
  fin_cases a
  show 0 * 4 + 1 * (j 0).val = (j 0).val; omega
theorem iblk2 (c : Dev nD) (t : Fin cfg0.N) : (iblk m c 2 t : Vec F S4 .f32) = m ((c : Thread nD τ).loc main_arg5) := by
  funext j
  unfold iblk
  rw [View.read_apply]
  show V m c main_arg5 _ = m (c.tc.loc main_arg5) _
  unfold V
  congr 1
  funext a
  apply Fin.ext
  fin_cases a
  show 0 * 4 + 1 * (j 0).val = (j 0).val; omega
theorem iblk3 (c : Dev nD) (t : Fin cfg0.N) :
    (iblk m c 3 t : Vec F S1x256x128 .fp8e4m3) = qBlock (grid0.coords t) (m ((c : Thread nD τ).loc main_arg0)) := by
  funext j
  unfold iblk qBlock
  rw [View.read_apply]
  show V m c main_arg0 _ = m (c.tc.loc main_arg0) _
  unfold V
  congr 1
  funext a
  apply Fin.ext
  have hj : (j 0).val < 1 := (j 0).isLt
  match a with
  | ⟨0, _⟩ =>
    show cc0_transform_3 (grid0.coords t) 0 * 1 + 1 * (j 0).val = _
    rw [t3_eq]; show (grid0.coords t 0).val * 1 + 1 * (j 0).val = (grid0.coords t 0).val; omega
  | ⟨1, _⟩ =>
    show cc0_transform_3 (grid0.coords t) 1 * 256 + 1 * (j 1).val = _
    rw [t3_eq]; show (grid0.coords t 3).val * 256 + 1 * (j 1).val = 256 * (grid0.coords t 3).val + (j 1).val; omega
  | ⟨2, _⟩ =>
    show cc0_transform_3 (grid0.coords t) 2 * 128 + 1 * (j 2).val = _
    rw [t3_eq]
    show (8 * (grid0.coords t 1).val + (grid0.coords t 2).val) * 128 + 1 * (j 2).val
      = 128 * (8 * (grid0.coords t 1).val + (grid0.coords t 2).val) + (j 2).val
    omega
theorem iblk4 (c : Dev nD) (t : Fin cfg0.N) :
    (iblk m c 4 t : Vec F S1x16384x128 .fp8e4m3) = kvBlock (grid0.coords t) (m ((c : Thread nD τ).loc main_arg1)) := by
  funext j
  unfold iblk kvBlock
  rw [View.read_apply]
  show V m c main_arg1 _ = m (c.tc.loc main_arg1) _
  unfold V
  congr 1
  funext a
  apply Fin.ext
  have hj : (j 0).val < 1 := (j 0).isLt
  match a with
  | ⟨0, _⟩ =>
    show cc0_transform_4 (grid0.coords t) 0 * 1 + 1 * (j 0).val = _
    rw [t4_eq]; show (grid0.coords t 0).val * 1 + 1 * (j 0).val = (grid0.coords t 0).val; omega
  | ⟨1, _⟩ =>
    show cc0_transform_4 (grid0.coords t) 1 * 16384 + 1 * (j 1).val = _
    rw [t4_eq]; show 0 * 16384 + 1 * (j 1).val = (j 1).val; omega
  | ⟨2, _⟩ =>
    show cc0_transform_4 (grid0.coords t) 2 * 128 + 1 * (j 2).val = _
    rw [t4_eq]
    show (grid0.coords t 1).val * 128 + 1 * (j 2).val = 128 * (grid0.coords t 1).val + (j 2).val
    omega
theorem iblk5 (c : Dev nD) (t : Fin cfg0.N) :
    (iblk m c 5 t : Vec F S1x16384x128 .fp8e4m3) = kvBlock (grid0.coords t) (m ((c : Thread nD τ).loc main_arg2)) := by
  funext j
  unfold iblk kvBlock
  rw [View.read_apply]
  show V m c main_arg2 _ = m (c.tc.loc main_arg2) _
  unfold V
  congr 1
  funext a
  apply Fin.ext
  have hj : (j 0).val < 1 := (j 0).isLt
  match a with
  | ⟨0, _⟩ =>
    show cc0_transform_5 (grid0.coords t) 0 * 1 + 1 * (j 0).val = _
    rw [t5_eq]; show (grid0.coords t 0).val * 1 + 1 * (j 0).val = (grid0.coords t 0).val; omega
  | ⟨1, _⟩ =>
    show cc0_transform_5 (grid0.coords t) 1 * 16384 + 1 * (j 1).val = _
    rw [t5_eq]; show 0 * 16384 + 1 * (j 1).val = (j 1).val; omega
  | ⟨2, _⟩ =>
    show cc0_transform_5 (grid0.coords t) 2 * 128 + 1 * (j 2).val = _
    rw [t5_eq]
    show (grid0.coords t 1).val * 128 + 1 * (j 2).val = 128 * (grid0.coords t 1).val + (j 2).val
    omega

theorem y0_lt (y : S2x16384x4096.Idx) : (y (0 : Fin 3)).val < 2 := (y (0 : Fin 3)).isLt
theorem y1_lt (y : S2x16384x4096.Idx) : (y (1 : Fin 3)).val < 16384 := (y (1 : Fin 3)).isLt
theorem y2_lt (y : S2x16384x4096.Idx) : (y (2 : Fin 3)).val < 4096 := (y (2 : Fin 3)).isLt

/-- The coordinates of the grid point that writes an element of the output. -/
def coordsOf (y : S2x16384x4096.Idx) : grid0.Coords := fun a => match a with
  | ⟨0, _⟩ => (⟨(y (0 : Fin 3)).val, y0_lt y⟩ : Fin 2)
  | ⟨1, _⟩ => (⟨(y (2 : Fin 3)).val / 1024, by have := y2_lt y; omega⟩ : Fin 4)
  | ⟨2, _⟩ => (⟨(y (2 : Fin 3)).val / 128 % 8, Nat.mod_lt _ (by decide)⟩ : Fin 8)
  | ⟨3, _⟩ => (⟨(y (1 : Fin 3)).val / 256, by have := y1_lt y; omega⟩ : Fin 64)
/-- Its place in that point's block. -/
def placeIn (y : S2x16384x4096.Idx) : S1x256x128.Idx :=
  ix3 (⟨0, Nat.one_pos⟩ : Fin 1) (⟨(y (1 : Fin 3)).val % 256, Nat.mod_lt _ (by decide)⟩ : Fin 256)
    (⟨(y (2 : Fin 3)).val % 128, Nat.mod_lt _ (by decide)⟩ : Fin 128)

/-- The output array as a function of the six argument arrays. -/
def result (a0 : Vec F S2x16384x4096 .fp8e4m3) (a1 a2 : Vec F S2x16384x512 .fp8e4m3) (a3 : Vec F S32 .f32) (a4 a5 : Vec F S4 .f32) :
    Vec F S2x16384x4096 .bf16 := fun y =>
  blockOut (coordsOf y) a3 a4 a5 (qBlock (coordsOf y) a0) (kvBlock (coordsOf y) a1) (kvBlock (coordsOf y) a2) (placeIn y)

/-- The output array of core `c`'s run. -/
abbrev resultAt (c : Dev nD) : Vec F S2x16384x4096 .bf16 :=
  result (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))

theorem result_at (a0 : Vec F S2x16384x4096 .fp8e4m3) (a1 a2 : Vec F S2x16384x512 .fp8e4m3) (a3 : Vec F S32 .f32) (a4 a5 : Vec F S4 .f32)
    (i : grid0.Coords) (j : S1x256x128.Idx) (y : S2x16384x4096.Idx)
    (h0 : (y (0 : Fin 3)).val = (i 0).val) (h1 : (y (1 : Fin 3)).val = 256 * (i 3).val + (j (1 : Fin 3)).val)
    (h2 : (y (2 : Fin 3)).val = 128 * (8 * (i 1).val + (i 2).val) + (j (2 : Fin 3)).val) :
    result a0 a1 a2 a3 a4 a5 y = blockOut i a3 a4 a5 (qBlock i a0) (kvBlock i a1) (kvBlock i a2) j := by
  have j0 : (j (0 : Fin 3)).val < 1 := (j (0 : Fin 3)).isLt
  have j1 : (j (1 : Fin 3)).val < 256 := (j (1 : Fin 3)).isLt
  have j2 : (j (2 : Fin 3)).val < 128 := (j (2 : Fin 3)).isLt
  have l1 := i1_lt i; have l2 := i2_lt i; have l3 := i3_lt i
  have e : coordsOf y = i := funext fun a => Fin.ext (by
    match a with
    | ⟨0, _⟩ => exact h0
    | ⟨1, _⟩ => show (y (2 : Fin 3)).val / 1024 = (i 1).val; omega
    | ⟨2, _⟩ => show (y (2 : Fin 3)).val / 128 % 8 = (i 2).val; omega
    | ⟨3, _⟩ => show (y (1 : Fin 3)).val / 256 = (i 3).val; omega)
  have p : placeIn y = j := funext fun a => Fin.ext (by
    match a with
    | ⟨0, _⟩ => show 0 = (j (0 : Fin 3)).val; omega
    | ⟨1, _⟩ => show (y (1 : Fin 3)).val % 256 = (j (1 : Fin 3)).val; omega
    | ⟨2, _⟩ => show (y (2 : Fin 3)).val % 128 = (j (2 : Fin 3)).val; omega)
  unfold result
  rw [e, p]

/-- What a grid point flushes is its part of the output array. -/
theorem flushed_eq (c : Dev nD) (t : Fin cfg0.N) (hf : (cfg0.win 6).flush t = true) :
    (dats m 0 c).flushed 6 t = ((cfg0.win 6).blk t).view.read (Elt F) (resultAt m c) := by
  show (cfg0.win 6).cut (grid0.coords t) ((dats m 0 c).after 6 t) = _
  rw [after0_6]
  funext j
  rw [View.read_apply, iblk0, iblk1, iblk2, iblk3, iblk4, iblk5]
  refine Eq.symm ((result_at _ _ _ _ _ _ (grid0.coords t) j _ ?_ ?_ ?_).trans rfl)
  · have hj : (j 0).val < 1 := (j 0).isLt
    show cc0_transform_6 (grid0.coords t) 0 * 1 + 1 * (j 0).val = _
    rw [t6_eq]; show (grid0.coords t 0).val * 1 + 1 * (j 0).val = (grid0.coords t 0).val; omega
  · show cc0_transform_6 (grid0.coords t) 1 * 256 + 1 * (j 1).val = _
    rw [t6_eq]; show (grid0.coords t 3).val * 256 + 1 * (j 1).val = 256 * (grid0.coords t 3).val + (j 1).val; omega
  · show cc0_transform_6 (grid0.coords t) 2 * 128 + 1 * (j 2).val = _
    rw [t6_eq]
    show (8 * (grid0.coords t 1).val + (grid0.coords t 2).val) * 128 + 1 * (j 2).val
      = 128 * (8 * (grid0.coords t 1).val + (grid0.coords t 2).val) + (j 2).val
    omega

/-- The blocks cover the output array, so it ends holding `result` of the arguments. -/
theorem final_o (c : Dev nD) : (dats m 0 c).arrAt 6 cfg0.N = resultAt m c :=
  (dats m 0 c).arrAt_eq_of_cover 6 (resultAt m c) (flushed_eq m c) fun y => by
    obtain ⟨t, ht⟩ := grid0.coords_surjective (coordsOf y)
    refine ⟨t, flush0_6 t, ?_⟩
    show y ∈ ((View.whole main_v0).slice (win0_6.rect t)).set
    rw [View.set_slice_whole, Rect.mem_set_unit]
    have b0 := y0_lt y; have b1 := y1_lt y; have b2 := y2_lt y
    intro a
    match a with
    | ⟨0, _⟩ =>
      show cc0_transform_6 (grid0.coords t) 0 * 1 ≤ (y (0 : Fin 3)).val ∧ (y (0 : Fin 3)).val < cc0_transform_6 (grid0.coords t) 0 * 1 + 1
      rw [t6_eq, ht]
      show (y (0 : Fin 3)).val * 1 ≤ (y (0 : Fin 3)).val ∧ (y (0 : Fin 3)).val < (y (0 : Fin 3)).val * 1 + 1
      omega
    | ⟨1, _⟩ =>
      show cc0_transform_6 (grid0.coords t) 1 * 256 ≤ (y (1 : Fin 3)).val ∧ (y (1 : Fin 3)).val < cc0_transform_6 (grid0.coords t) 1 * 256 + 256
      rw [t6_eq, ht]
      show (y (1 : Fin 3)).val / 256 * 256 ≤ (y (1 : Fin 3)).val ∧ (y (1 : Fin 3)).val < (y (1 : Fin 3)).val / 256 * 256 + 256
      omega
    | ⟨2, _⟩ =>
      show cc0_transform_6 (grid0.coords t) 2 * 128 ≤ (y (2 : Fin 3)).val ∧ (y (2 : Fin 3)).val < cc0_transform_6 (grid0.coords t) 2 * 128 + 128
      rw [t6_eq, ht]
      show (8 * ((y (2 : Fin 3)).val / 1024) + (y (2 : Fin 3)).val / 128 % 8) * 128 ≤ (y (2 : Fin 3)).val
        ∧ (y (2 : Fin 3)).val < (8 * ((y (2 : Fin 3)).val / 1024) + (y (2 : Fin 3)).val / 128 % 8) * 128 + 128
      omega

/-- The run, read: the output array at `result` of the arguments, the arguments unchanged. -/
theorem run : θ_run defs (onTc (τ := τ) (main (F := F))) ⟨m, fun _ => 0, ρ⟩ fun r => ∀ c : Dev nD,
      r.2.mem ((c.tc : Thread nD τ).loc main_v0) = resultAt m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨(h.1 c).1 6 |>.trans (final_o m c), h.2 c⟩)
    (θ_run_and (run_main m ρ) (unchanged m ρ))

end Cert.KernelIdeal.Value

end
-- ==== Proof.Math.lean ====
module

public import proofs.«01_k».proof.Proof.Result

@[expose] public section

/-! # The mathematics of the two softmaxes

The kernel takes exponentials to the base two of scores scaled by `1 / log 2`, and the reference takes natural ones.
All of it is about the extended reals, and holds for every one of them. -/

set_option maxRecDepth 16384

noncomputable section

namespace Cert.Attn

open Idealize.ShloMosaic

/-- The pattern of minus infinity. -/
theorem ofBits_bot : Ideal.ofBits .f32 0xFF800000#32 = (⊥ : EReal) := by
  simp [Ideal.ofBits, Ideal.ieee]
/-- The pattern of 256. -/
theorem ofBits_256 : Ideal.ofBits .f32 0x43800000#32 = ((256 : ℝ) : EReal) := by
  simp [Ideal.ofBits, Ideal.ieee, -EReal.coe_mul]; norm_num

/-- `1 / log 2`. -/
abbrev L : ℝ := (Real.log 2)⁻¹
theorem L_pos : 0 < L := inv_pos.2 (Real.log_pos (by norm_num))
theorem L_nonneg : (0 : EReal) ≤ (L : EReal) := EReal.coe_nonneg.2 L_pos.le

/-- Two to the power `x / log 2` is `e` to the power `x`. -/
theorem exp2_mul_L (x : EReal) : Ideal.exp2 (x * (L : EReal)) = Ideal.exp x := by
  induction x with
  | bot => rw [EReal.bot_mul_coe_of_pos L_pos]; rfl
  | top => rw [EReal.top_mul_coe_of_pos L_pos]; rfl
  | coe r =>
    rw [← EReal.coe_mul]
    show ((Real.rpow 2 (r * L) : ℝ) : EReal) = ((Real.exp r : ℝ) : EReal)
    congr 1
    show (2 : ℝ) ^ (r * L) = Real.exp r
    rw [Real.rpow_def_of_pos (by norm_num)]
    congr 1
    have : Real.log 2 ≠ 0 := (Real.log_pos (by norm_num)).ne'
    unfold L
    field_simp

/-- A difference scaled. -/
theorem sub_mul_L (a b : EReal) : a * (L : EReal) - b * (L : EReal) = (a - b) * (L : EReal) :=
  (EReal.sub_mul_of_nonneg_of_ne_top L_nonneg (EReal.coe_ne_top _)).symm

/-- A maximum scaled. -/
theorem max_mul_L (a b : EReal) : max (a * (L : EReal)) (b * (L : EReal)) = max a b * (L : EReal) := by
  have mono : Monotone fun x : EReal => x * (L : EReal) := fun x y h => mul_le_mul_of_nonneg_right h L_nonneg
  exact (mono.map_max (a := a) (b := b)).symm

/-- The largest of finitely many extended reals, minus infinity among them. -/
def top {n : ℕ} (a : Fin n → EReal) : EReal := Finset.univ.fold max (Ideal.ofBits .f32 0xFF800000#32) a

theorem top_mul_L {n : ℕ} (a : Fin n → EReal) : (top fun c => a c * (L : EReal)) = top a * (L : EReal) := by
  unfold top
  rw [ofBits_bot]
  have key := Finset.fold_hom (op := max) (op' := max) (s := Finset.univ) (b := (⊥ : EReal)) (f := a) (m := fun x : EReal => x * (L : EReal))
    (fun x y => (max_mul_L x y).symm)
  rw [← key]
  show Finset.fold max ⊥ _ _ = Finset.fold max ((⊥ : EReal) * (L : EReal)) _ _
  rw [EReal.bot_mul_coe_of_pos L_pos]

/-- A factor times `256 / l` is the factor times `1 / l`, times 256. -/
theorem mul_div_256 (e l : EReal) :
    e * Ideal.div (Ideal.ofBits .f32 0x43800000#32) l = e * Ideal.div 1 l * Ideal.ofBits .f32 0x43800000#32 := by
  rw [ofBits_256, mul_assoc]
  congr 1
  unfold Ideal.div
  have h256 : (0 : ℝ) < 256 := by norm_num
  split
  · rw [if_pos (EReal.coe_pos.2 h256), if_pos zero_lt_one, EReal.top_mul_coe_of_pos h256]
  · rw [one_mul, mul_comm]

/-- Quantised attention with natural exponentials: `s` the products of a query with the keys, `w` their scale, `v` one
column of the values. -/
def refAttn {n : ℕ} (s v : Fin n → EReal) (w : EReal) : EReal :=
  ∑ c, v c * min (Ideal.exp (s c * w - top fun k => s k * w)
      * Ideal.div 1 (∑ c', Ideal.exp (s c' * w - top fun k => s k * w))
    * Ideal.ofBits .f32 0x43800000#32) (Ideal.ofBits .f32 0x43E00000#32)

/-- The same with exponentials to the base two and one factor `256 / sum`, as the kernel has it. -/
def kerAttn {n : ℕ} (s v : Fin n → EReal) (w : EReal) : EReal :=
  ∑ c, min (Ideal.exp2 (s c * w - top fun k => s k * w)
      * Ideal.div (Ideal.ofBits .f32 0x43800000#32) (∑ c', Ideal.exp2 (s c' * w - top fun k => s k * w)))
    (Ideal.ofBits .f32 0x43E00000#32) * v c

/-- One exponential. -/
theorem exp2_score {n : ℕ} (s : Fin n → EReal) (w : EReal) (c : Fin n) :
    Ideal.exp2 (s c * (w * (L : EReal)) - top fun k => s k * (w * (L : EReal))) = Ideal.exp (s c * w - top fun k => s k * w) := by
  simp only [← mul_assoc]
  rw [top_mul_L, sub_mul_L, exp2_mul_L]

/-- **The two agree** when the kernel's scale has the extra factor `1 / log 2`. -/
theorem kerAttn_eq {n : ℕ} (s v : Fin n → EReal) (w : EReal) : kerAttn s v (w * (L : EReal)) = refAttn s v w := by
  unfold kerAttn refAttn
  simp only [exp2_score]
  refine Finset.sum_congr rfl fun c _ => ?_
  rw [mul_div_256, mul_comm]

/-! ## Sums and maxima taken block by block -/

/-- A sum over `a * b` places, block by block. -/
theorem sum_blocks (f : ℕ → EReal) (a b : ℕ) :
    ∑ c ∈ Finset.range (a * b), f c = ∑ i ∈ Finset.range a, ∑ j ∈ Finset.range b, f (b * i + j) := by
  induction a with
  | zero => simp
  | succ a ih =>
    rw [Nat.succ_mul, Finset.sum_range_add, ih, Finset.sum_range_succ]
    simp only [Nat.mul_comm a b]

/-- `top` is the least upper bound. -/
theorem top_le_iff {n : ℕ} (a : Fin n → EReal) (y : EReal) : top a ≤ y ↔ ∀ c, a c ≤ y := by
  unfold top
  rw [Finset.fold_max_le, ofBits_bot]
  simp

theorem sum_four (f : ℕ → EReal) : ∑ j ∈ Finset.range 4, f j = f 0 + f 1 + f 2 + f 3 := by
  simp only [Finset.sum_range_succ, Finset.sum_range_zero, zero_add]

/-- The sum over 16384 places, lane by lane, 32 trips of four lane slices each. -/
theorem sum_lanes (E : ℕ → EReal) :
    ∑ l : Fin 128, ∑ i ∈ Finset.range 32,
        (E (512 * i + (0 + l.val)) + E (512 * i + (128 + l.val)) + E (512 * i + (256 + l.val)) + E (512 * i + (384 + l.val)))
      = ∑ c : Fin 16384, E c.val := by
  rw [Fin.sum_univ_eq_sum_range (fun c => E c) 16384, show 16384 = 32 * 512 from rfl, sum_blocks,
    Fin.sum_univ_eq_sum_range (fun l => ∑ i ∈ Finset.range 32,
        (E (512 * i + (0 + l)) + E (512 * i + (128 + l)) + E (512 * i + (256 + l)) + E (512 * i + (384 + l)))) 128,
    Finset.sum_comm]
  refine Finset.sum_congr rfl fun i _ => ?_
  have h := sum_blocks (fun j => E (512 * i + j)) 4 128
  rw [sum_four] at h
  rw [show 512 = 4 * 128 from rfl]
  refine Eq.trans ?_ h.symm
  rw [Finset.sum_add_distrib, Finset.sum_add_distrib, Finset.sum_add_distrib]

end Cert.Attn

end
-- ==== Proof.Read.lean ====
module

public import proofs.«01_k».proof.Proof.Math

@[expose] public section

/-! # A grid point's block, element by element

What the payloads of the three passes compute at one query and one lane, and what the passes add up to. -/

set_option maxRecDepth 16384

noncomputable section

namespace Cert.KernelIdeal.Value

open Cert.KernelIdeal Cert.KernelIdeal.Gen Cert.Attn
open Idealize.ShloMosaic

/-- The scaled product of query `r` with key `n`. -/
def scoreN (v3 v5 : Ideal .f32) (q : Vec Ideal S1x256x128 .fp8e4m3) (x : Vec Ideal S1x16384x128 .fp8e4m3) (r : Fin 256) (n : ℕ) : EReal :=
  if h : n < 16384 then (∑ d : Fin 128, q (ix3 0 r d) * x (ix3 0 ⟨n, h⟩ d)) * k0_pay4 (F := Ideal) v3 v5 else 0

/-- The largest of a query's 128 lanes. -/
def rowMax (m : Vec Ideal S256x128 .f32) (r : Fin 256) : EReal := top fun l : Fin 128 => m (ix2 r l)

/-- The scaled product inside one trip's 512 keys. -/
abbrev tileScore (v3 v5 : Ideal .f32) (q : Vec Ideal S1x256x128 .fp8e4m3) (x : Vec Ideal S1x512x128 .fp8e4m3) (r : Fin 256) (c : Fin 512) : EReal :=
  (∑ d : Fin 128, q (ix3 0 r d) * x (ix3 0 c d)) * k0_pay4 (F := Ideal) v3 v5

/-- A lane of one of the four slices of a trip. -/
abbrev lane (o : ℕ) (ho : o ≤ 384) (l : Fin 128) : Fin 512 := ⟨o + l.val, by have := l.isLt; omega⟩

/-! ## The loads -/

theorem ld_k1 (x : Vec Ideal S1x16384x128 .fp8e4m3) (k : Fin k0_t1_loop.trips) (c : Fin 512) (d : Fin 128) (h : 512 * k.val + c.val < 16384) :
    (View.ld x (rK1 k) : Vec Ideal S1x512x128 .fp8e4m3) (ix3 0 c d) = x (ix3 0 ⟨512 * k.val + c.val, h⟩ d) := by
  show x ((rK1 k).idx (ix3 0 c d)) = _
  refine congrArg x (funext fun a => Fin.ext ?_)
  match a with
  | ⟨0, _⟩ => show k0_off3 k 0 + 1 * 0 = 0; rw [off3_eq]; rfl
  | ⟨1, _⟩ => show k0_off3 k 1 + 1 * c.val = _; rw [off3_eq]; show 512 * k.val + 1 * c.val = 512 * k.val + c.val; omega
  | ⟨2, _⟩ => show k0_off3 k 2 + 1 * d.val = d.val; rw [off3_eq]; show 0 + 1 * d.val = d.val; omega
theorem ld_k2 (x : Vec Ideal S1x16384x128 .fp8e4m3) (k : Fin k0_t2_loop.trips) (c : Fin 512) (d : Fin 128) (h : 512 * k.val + c.val < 16384) :
    (View.ld x (rK2 k) : Vec Ideal S1x512x128 .fp8e4m3) (ix3 0 c d) = x (ix3 0 ⟨512 * k.val + c.val, h⟩ d) := by
  show x ((rK2 k).idx (ix3 0 c d)) = _
  refine congrArg x (funext fun a => Fin.ext ?_)
  match a with
  | ⟨0, _⟩ => show k0_off4 k 0 + 1 * 0 = 0; rw [off4_eq]; rfl
  | ⟨1, _⟩ => show k0_off4 k 1 + 1 * c.val = _; rw [off4_eq]; show 512 * k.val + 1 * c.val = 512 * k.val + c.val; omega
  | ⟨2, _⟩ => show k0_off4 k 2 + 1 * d.val = d.val; rw [off4_eq]; show 0 + 1 * d.val = d.val; omega
theorem ld_v3 (x : Vec Ideal S1x16384x128 .fp8e4m3) (k : Fin k0_t3_loop.trips) (c : Fin 2048) (d : Fin 128) (h : 2048 * k.val + c.val < 16384) :
    (View.ld x (rV3 k) : Vec Ideal S1x2048x128 .fp8e4m3) (ix3 0 c d) = x (ix3 0 ⟨2048 * k.val + c.val, h⟩ d) := by
  show x ((rV3 k).idx (ix3 0 c d)) = _
  refine congrArg x (funext fun a => Fin.ext ?_)
  match a with
  | ⟨0, _⟩ => show k0_off7 k 0 + 1 * 0 = 0; rw [off7_eq]; rfl
  | ⟨1, _⟩ => show k0_off7 k 1 + 1 * c.val = _; rw [off7_eq]; show 2048 * k.val + 1 * c.val = 2048 * k.val + c.val; omega
  | ⟨2, _⟩ => show k0_off7 k 2 + 1 * d.val = d.val; rw [off7_eq]; show 0 + 1 * d.val = d.val; omega
theorem ld_e3 (e : Vec Ideal S256x16384 .f32) (k : Fin k0_t3_loop.trips) (r : Fin 256) (c : Fin 2048) (h : 2048 * k.val + c.val < 16384) :
    (View.ld e (rE3 k) : Vec Ideal S256x2048 .f32) (ix2 r c) = e (ix2 r ⟨2048 * k.val + c.val, h⟩) := by
  show e ((rE3 k).idx (ix2 r c)) = _
  refine congrArg e (funext fun a => Fin.ext ?_)
  match a with
  | ⟨0, _⟩ => show k0_off6 k 0 + 1 * r.val = r.val; rw [off6_eq]; show 0 + 1 * r.val = r.val; omega
  | ⟨1, _⟩ => show k0_off6 k 1 + 1 * c.val = _; rw [off6_eq]; show 2048 * k.val + 1 * c.val = 2048 * k.val + c.val; omega

theorem tile_k1 (v3 v5 : Ideal .f32) (q : Vec Ideal S1x256x128 .fp8e4m3) (x : Vec Ideal S1x16384x128 .fp8e4m3) (r : Fin 256)
    (k : Fin k0_t1_loop.trips) (c : Fin 512) : tileScore v3 v5 q (View.ld x (rK1 k)) r c = scoreN v3 v5 q x r (512 * k.val + c.val) := by
  have hk : k.val < 32 := lt_of_lt_of_eq k.isLt trips1
  have hc := c.isLt
  unfold scoreN
  rw [dif_pos (by omega : 512 * k.val + c.val < 16384)]
  refine congrArg (· * _) (Finset.sum_congr rfl fun d _ => congrArg (_ * ·) (ld_k1 x k c d _))
theorem tile_k2 (v3 v5 : Ideal .f32) (q : Vec Ideal S1x256x128 .fp8e4m3) (x : Vec Ideal S1x16384x128 .fp8e4m3) (r : Fin 256)
    (k : Fin k0_t2_loop.trips) (c : Fin 512) : tileScore v3 v5 q (View.ld x (rK2 k)) r c = scoreN v3 v5 q x r (512 * k.val + c.val) := by
  have hk : k.val < 32 := lt_of_lt_of_eq k.isLt trips2
  have hc := c.isLt
  unfold scoreN
  rw [dif_pos (by omega : 512 * k.val + c.val < 16384)]
  refine congrArg (· * _) (Finset.sum_congr rfl fun d _ => congrArg (_ * ·) (ld_k2 x k c d _))

/-! ## The payloads -/

theorem pay6_apply (r : Fin 256) (l : Fin 128) : (k0_pay6 : FVec Ideal S256x128 .f32) (ix2 r l) = Ideal.ofBits .f32 0xFF800000#32 := by
  unfold k0_pay6; simp only [pointwise]
theorem pay8_apply (r : Fin 256) (l : Fin 128) : (k0_pay8 : FVec Ideal S256x128 .f32) (ix2 r l) = 0 := by
  unfold k0_pay8; simp only [pointwise]
theorem pay1_apply (r : Fin 256) (l : Fin 128) : (k0_pay1 : FVec Ideal S256x128 .f32) (ix2 r l) = 0 := by
  unfold k0_pay1; simp only [pointwise]
theorem pay3_apply (v38 : Vec Ideal S256x128 .f32) (v40 : Ideal .f32) (z : Fin 1) (r : Fin 256) (l : Fin 128) :
    k0_pay3 v38 v40 (ix3 z r l) = v38 (ix2 r l) * (v40 * Ideal.ofBits .f32 0x3B800000#32) := by
  unfold k0_pay3; simp only [pointwise]
theorem pay4_eq (v3 v5 : Ideal .f32) : k0_pay4 v3 v5 = v3 * v5 * Ideal.ofBits .f32 0x3DB504F3#32 * Named.named κ "log2e" 0x3FB8AA3B#32 := by
  unfold k0_pay4; simp only [pointwise]

theorem zero_addE (a : EReal) : 0 + a = a := zero_add a
theorem row_zero (r : Fin 256) (h : 0 + r.val < 256) : (⟨0 + r.val, h⟩ : Fin 256) = r := Fin.ext (Nat.zero_add _)

/-- The running maximum of a lane after one trip. -/
theorem pay7_apply (v3 v5 : Ideal .f32) (v9 : Vec Ideal S1x256x128 .fp8e4m3) (v50 : Vec Ideal S1x512x128 .fp8e4m3) (v55 : Vec Ideal S256x128 .f32)
    (r : Fin 256) (l : Fin 128) : k0_pay7 v3 v5 v9 v50 v55 (ix2 r l)
      = max (v55 (ix2 r l)) (max (max (max (tileScore v3 v5 v9 v50 r (lane 0 (by decide) l)) (tileScore v3 v5 v9 v50 r (lane 128 (by decide) l)))
          (tileScore v3 v5 v9 v50 r (lane 256 (by decide) l))) (tileScore v3 v5 v9 v50 r (lane 384 (by decide) l))) := by
  unfold k0_pay7 k0_pay5
  simp only [pointwise, zero_addE]
  simp only [Matrix.cons_val_zero, Matrix.cons_val_one, row_zero]

/-- One exponential of a trip. -/
theorem pay9_apply (v3 v5 : Ideal .f32) (v9 : Vec Ideal S1x256x128 .fp8e4m3) (v16 : Vec Ideal S256x128 .f32) (v50 : Vec Ideal S1x512x128 .fp8e4m3)
    (r : Fin 256) (c : Fin 512) : k0_pay9 v3 v5 v9 v16 v50 (ix2 r c) = Ideal.exp2 (tileScore v3 v5 v9 v50 r c - rowMax v16 r) := by
  unfold k0_pay9 k0_pay5
  simp only [pointwise, Nat.reduceEqDiff, OfNat.ofNat_ne_one, reduceDIte, zero_addE]
  show Ideal.exp2 (_ - _) = Ideal.exp2 (_ - _)
  congr 2
  have e : ∀ n, (if ((0 : Fin 2) : ℕ) = ((1 : Fin 2) : ℕ) then n else r.val) = r.val := fun n => if_neg (by decide)
  simp only [e, Fin.eta, dite_eq_ite, ite_self]
  rfl

theorem pay10_apply (v3 v5 : Ideal .f32) (v9 : Vec Ideal S1x256x128 .fp8e4m3) (v16 : Vec Ideal S256x128 .f32) (v50 : Vec Ideal S1x512x128 .fp8e4m3)
    (r : Fin 256) (c : Fin 512) : k0_pay10 v3 v5 v9 v16 v50 (ix2 r c) = Ideal.exp2 (tileScore v3 v5 v9 v50 r c - rowMax v16 r) := by
  rw [← pay9_apply]
  unfold k0_pay10
  exact congrFun (shapeCast_self _ _) _

/-- The running sum of a lane after one trip. -/
theorem pay11_apply (v3 v5 : Ideal .f32) (v9 : Vec Ideal S1x256x128 .fp8e4m3) (v16 : Vec Ideal S256x128 .f32) (v50 : Vec Ideal S1x512x128 .fp8e4m3) (v63 : Vec Ideal S256x128 .f32)
    (r : Fin 256) (l : Fin 128) : k0_pay11 v3 v5 v9 v16 v50 v63 (ix2 r l)
      = v63 (ix2 r l) + (k0_pay9 v3 v5 v9 v16 v50 (ix2 r (lane 0 (by decide) l)) + k0_pay9 v3 v5 v9 v16 v50 (ix2 r (lane 128 (by decide) l))
          + k0_pay9 v3 v5 v9 v16 v50 (ix2 r (lane 256 (by decide) l)) + k0_pay9 v3 v5 v9 v16 v50 (ix2 r (lane 384 (by decide) l))) := by
  unfold k0_pay11
  simp only [pointwise]
  simp only [Matrix.cons_val_zero, Matrix.cons_val_one, row_zero]

/-- Sixteen copies of 128 lanes side by side. -/
theorem sixteen_apply (x : FVec Ideal S256x128 .f32)
    (h : Shape.Concatenates [S256x128, S256x128, S256x128, S256x128, S256x128, S256x128, S256x128, S256x128, S256x128, S256x128, S256x128, S256x128, S256x128, S256x128, S256x128, S256x128] S256x2048 1)
    (r : Fin 256) (c : Fin 2048) :
    concatenate S256x2048 1 [⟨S256x128, x⟩, ⟨S256x128, x⟩, ⟨S256x128, x⟩, ⟨S256x128, x⟩, ⟨S256x128, x⟩, ⟨S256x128, x⟩, ⟨S256x128, x⟩, ⟨S256x128, x⟩, ⟨S256x128, x⟩, ⟨S256x128, x⟩, ⟨S256x128, x⟩, ⟨S256x128, x⟩, ⟨S256x128, x⟩, ⟨S256x128, x⟩, ⟨S256x128, x⟩, ⟨S256x128, x⟩] h (ix2 r c)
      = x (ix2 r ⟨c.val % 128, Nat.mod_lt _ (by decide)⟩) :=
  concatenate_replicate_apply (t := S256x2048) 1 16 x h rfl (ix2 r c) (ix2 r ⟨c.val % 128, Nat.mod_lt _ (by decide)⟩) rfl
    fun b hb => by
      match b with
      | ⟨0, _⟩ => rfl
      | ⟨1, _⟩ => exact absurd rfl hb

/-- The accumulated product of a query and a value column after one trip. -/
theorem pay2_apply (v26 : Vec Ideal S256x128 .f32) (v50 : Vec Ideal S256x2048 .f32) (v55 : Vec Ideal S256x128 .f32) (v59 : Vec Ideal S1x2048x128 .fp8e4m3)
    (r : Fin 256) (l : Fin 128) : k0_pay2 v26 v50 v55 v59 (ix2 r l)
      = v55 (ix2 r l) + ∑ c : Fin 2048, min (v50 (ix2 r c) * Ideal.div (Ideal.ofBits .f32 0x43800000#32) (∑ k : Fin 128, v26 (ix2 r k)))
          (Ideal.ofBits .f32 0x43E00000#32) * v59 (ix3 0 c l) := by
  unfold k0_pay2
  simp only [pointwise, sixteen_apply, Nat.reduceEqDiff, OfNat.ofNat_ne_one, reduceDIte, zero_addE]

/-! ## The passes -/

variable (v3 v5 : Ideal .f32) (q : Vec Ideal S1x256x128 .fp8e4m3) (x : Vec Ideal S1x16384x128 .fp8e4m3)

/-- After `n` trips a lane's maximum is the least upper bound of the scores it has met. -/
theorem maxAfter_le_iff (r : Fin 256) (l : Fin 128) (y : EReal) : ∀ n : ℕ, n ≤ 32 →
    (maxAfter v3 v5 q x (k0_pay6 (F := Ideal)) n (ix2 r l) ≤ y ↔ ∀ i < n, ∀ o ∈ [0, 128, 256, 384], scoreN v3 v5 q x r (512 * i + (o + l.val)) ≤ y)
  | 0, _ => by
    show k0_pay6 (F := Ideal) (ix2 r l) ≤ y ↔ _
    rw [pay6_apply, ofBits_bot]
    exact ⟨fun _ i hi => absurd hi (Nat.not_lt_zero i), fun _ => bot_le⟩
  | n + 1, hn => by
    have ht : n < k0_t1_loop.trips := by rw [trips1]; omega
    have ih := maxAfter_le_iff r l y n (by omega)
    rw [maxAfter, dif_pos ht, pay7_apply, tile_k1, tile_k1, tile_k1, tile_k1, max_le_iff, ih, max_le_iff, max_le_iff, max_le_iff]
    constructor
    · rintro ⟨h, ⟨⟨h0, h1⟩, h2⟩, h3⟩ i hi o ho
      rcases Nat.lt_succ_iff_lt_or_eq.mp hi with hlt | rfl
      · exact h i hlt o ho
      · simp only [List.mem_cons, List.not_mem_nil, or_false] at ho
        rcases ho with rfl | rfl | rfl | rfl
        · exact h0
        · exact h1
        · exact h2
        · exact h3
    · intro h
      exact ⟨fun i hi => h i (by omega), ⟨⟨h n (by omega) 0 (by decide), h n (by omega) 128 (by decide)⟩, h n (by omega) 256 (by decide)⟩,
        h n (by omega) 384 (by decide)⟩

/-- **A query's maximum** is the largest of all its 16384 scores. -/
theorem rowMax_maxes (r : Fin 256) : rowMax (maxes v3 v5 q x) r = top fun c : Fin 16384 => scoreN v3 v5 q x r c.val := by
  refine eq_of_forall_ge_iff fun y => ?_
  unfold rowMax maxes
  rw [top_le_iff, top_le_iff]
  simp only [trips1, maxAfter_le_iff v3 v5 q x r _ y 32 le_rfl]
  constructor
  · intro h c
    have hc := c.isLt
    have := h ⟨c.val % 128, Nat.mod_lt _ (by decide)⟩ (c.val / 512) (by omega) (c.val % 512 / 128 * 128) (by
      have : c.val % 512 / 128 < 4 := by omega
      interval_cases c.val % 512 / 128 <;> decide)
    have e : 512 * (c.val / 512) + (c.val % 512 / 128 * 128 + c.val % 128) = c.val := by omega
    rwa [e] at this
  · intro h l i hi o ho
    have hl := l.isLt
    have ho' : o ≤ 384 := by
      simp only [List.mem_cons, List.not_mem_nil, or_false] at ho
      omega
    exact h ⟨512 * i + (o + l.val), by omega⟩

/-- The exponential of a score less its query's maximum. -/
def expN (r : Fin 256) (n : ℕ) : EReal := Ideal.exp2 (scoreN v3 v5 q x r n - top fun c : Fin 16384 => scoreN v3 v5 q x r c.val)

theorem pay9_trip (r : Fin 256) (k : Fin k0_t2_loop.trips) (c : Fin 512) :
    k0_pay9 v3 v5 q (maxes v3 v5 q x) (View.ld x (rK2 k)) (ix2 r c) = expN v3 v5 q x r (512 * k.val + c.val) := by
  rw [pay9_apply, tile_k2, rowMax_maxes]; rfl

/-- After `n` trips a lane's sum. -/
theorem sumAfter_apply (r : Fin 256) (l : Fin 128) : ∀ n : ℕ, n ≤ 32 →
    sumAfter v3 v5 q (maxes v3 v5 q x) x (k0_pay8 (F := Ideal)) n (ix2 r l)
      = ∑ i ∈ Finset.range n, (expN v3 v5 q x r (512 * i + (0 + l.val)) + expN v3 v5 q x r (512 * i + (128 + l.val))
          + expN v3 v5 q x r (512 * i + (256 + l.val)) + expN v3 v5 q x r (512 * i + (384 + l.val)))
  | 0, _ => by
    show k0_pay8 (F := Ideal) (ix2 r l) = _
    rw [pay8_apply, Finset.sum_range_zero]
  | n + 1, hn => by
    have ht : n < k0_t2_loop.trips := by rw [trips2]; omega
    have ih := sumAfter_apply r l n (by omega)
    rw [sumAfter, dif_pos ht, pay11_apply, pay9_trip, pay9_trip, pay9_trip, pay9_trip, ih, Finset.sum_range_succ]

/-- **A query's sum**, over its lanes, is the sum of all its 16384 exponentials. -/
theorem sum_sums (r : Fin 256) : (∑ l : Fin 128, sums v3 v5 q x (ix2 r l)) = ∑ c : Fin 16384, expN v3 v5 q x r c.val := by
  unfold sums
  simp only [trips2, sumAfter_apply v3 v5 q x r _ 32 le_rfl]
  exact sum_lanes (expN v3 v5 q x r)

/-- A stored exponential. -/
theorem expAt_apply (r : Fin 256) (c : Fin 16384) : expAt v3 v5 q (maxes v3 v5 q x) x (ix2 r c) = expN v3 v5 q x r c.val := by
  have hp : placeOf (ix2 r c) = ix2 r (⟨c.val % 512, Nat.mod_lt _ (by decide)⟩ : Fin 512) := funext fun a => Fin.ext (by
    match a with
    | ⟨0, _⟩ => rfl
    | ⟨1, _⟩ => rfl)
  have e : 512 * (c.val / 512) + c.val % 512 = c.val := Nat.div_add_mod _ _
  unfold expAt
  rw [hp, pay10_apply, tile_k2, rowMax_maxes]
  show Ideal.exp2 (scoreN v3 v5 q x r (512 * (c.val / 512) + c.val % 512) - _) = _
  rw [e]; rfl

/-- One term of a query's product with a value column. -/
def termN (v : Vec Ideal S1x16384x128 .fp8e4m3) (r : Fin 256) (d : Fin 128) (n : ℕ) : EReal :=
  min (expN v3 v5 q x r n * Ideal.div (Ideal.ofBits .f32 0x43800000#32) (∑ c : Fin 16384, expN v3 v5 q x r c.val)) (Ideal.ofBits .f32 0x43E00000#32)
    * (if h : n < 16384 then v (ix3 0 ⟨n, h⟩ d) else 0)

theorem accAfter_apply (v : Vec Ideal S1x16384x128 .fp8e4m3) (r : Fin 256) (d : Fin 128) : ∀ n : ℕ, n ≤ 8 →
    accAfter (sums v3 v5 q x) (expAt v3 v5 q (maxes v3 v5 q x) x) v (k0_pay1 (F := Ideal)) n (ix2 r d)
      = ∑ i ∈ Finset.range n, ∑ j ∈ Finset.range 2048, termN v3 v5 q x v r d (2048 * i + j)
  | 0, _ => by
    show k0_pay1 (F := Ideal) (ix2 r d) = _
    rw [pay1_apply, Finset.sum_range_zero]
  | n + 1, hn => by
    have ht : n < k0_t3_loop.trips := by rw [trips3]; omega
    have ih := accAfter_apply v r d n (by omega)
    rw [accAfter, dif_pos ht, pay2_apply, ih, sum_sums, Finset.sum_range_succ, ← Fin.sum_univ_eq_sum_range (fun j => termN v3 v5 q x v r d (2048 * n + j)) 2048]
    refine congrArg (_ + ·) (Finset.sum_congr rfl fun c _ => ?_)
    have hc := c.isLt
    have h : 2048 * n + c.val < 16384 := by omega
    rw [ld_e3 _ ⟨n, ht⟩ r c h, ld_v3 v ⟨n, ht⟩ c d h, expAt_apply]
    unfold termN
    rw [dif_pos h]

/-- **What the third pass accumulates**: the sum over all keys. -/
theorem accs_apply (v : Vec Ideal S1x16384x128 .fp8e4m3) (r : Fin 256) (d : Fin 128) :
    accs v3 v5 q x v (ix2 r d) = kerAttn (fun c : Fin 16384 => ∑ k : Fin 128, q (ix3 0 r k) * x (ix3 0 c k)) (fun c => v (ix3 0 c d)) (k0_pay4 (F := Ideal) v3 v5) := by
  unfold accs
  rw [trips3, accAfter_apply v3 v5 q x v r d 8 le_rfl, ← sum_blocks (termN v3 v5 q x v r d) 8 2048, ← Fin.sum_univ_eq_sum_range (termN v3 v5 q x v r d) (8 * 2048)]
  unfold kerAttn
  have es : ∀ c : Fin 16384, scoreN v3 v5 q x r c.val = (∑ k : Fin 128, q (ix3 0 r k) * x (ix3 0 c k)) * k0_pay4 (F := Ideal) v3 v5 := fun c => dif_pos c.isLt
  have ee : ∀ c : Fin 16384, expN v3 v5 q x r c.val = Ideal.exp2 ((∑ k : Fin 128, q (ix3 0 r k) * x (ix3 0 c k)) * k0_pay4 (F := Ideal) v3 v5
      - top fun c : Fin 16384 => (∑ k : Fin 128, q (ix3 0 r k) * x (ix3 0 c k)) * k0_pay4 (F := Ideal) v3 v5) := fun c => by
    unfold expN; simp only [es]
  refine Finset.sum_congr rfl fun (c : Fin 16384) _ => ?_
  unfold termN
  rw [dif_pos c.isLt]
  simp only [ee]

/-- **A grid point's block**, element by element. -/
theorem out_apply (v40 : Ideal .f32) (v : Vec Ideal S1x16384x128 .fp8e4m3) (z : Fin 1) (r : Fin 256) (d : Fin 128) :
    out v3 v5 v40 q x v (ix3 z r d)
      = kerAttn (fun c : Fin 16384 => ∑ k : Fin 128, q (ix3 0 r k) * x (ix3 0 c k)) (fun c => v (ix3 0 c d)) (k0_pay4 (F := Ideal) v3 v5)
        * (v40 * Ideal.ofBits .f32 0x3B800000#32) := by
  unfold out
  rw [pay3_apply, accs_apply]

end Cert.KernelIdeal.Value

end
-- ==== Proof.Ref.lean ====
module

public import proofs.«01_k».proof.Proof.Read
public import proofs.«01_k».proof.Proof.Gen.ReferenceIdeal.Value

@[expose] public section

/-! # What the reference computes, element by element -/

set_option maxRecDepth 16384

noncomputable section

namespace Cert.ReferenceIdeal.Value

open Cert.ReferenceIdeal Cert.ReferenceIdeal.Gen Cert.Attn
open Idealize.ShloMosaic

/-- The column of lane `d` of query head `8 * h + g`. -/
abbrev qCol (h : Fin 4) (g : Fin 8) (d : Fin 128) : Fin 4096 :=
  ⟨h.val * 1024 + g.val * 128 + d.val, by have := h.isLt; have := g.isLt; have := d.isLt; omega⟩
/-- The column of lane `d` of key head `h`. -/
abbrev kCol (h : Fin 4) (d : Fin 128) : Fin 512 := ⟨h.val * 128 + d.val, by have := h.isLt; have := d.isLt; omega⟩
/-- Query head `8 * h + g`. -/
abbrev qHead (h : Fin 4) (g : Fin 8) : Fin 32 := ⟨h.val * 8 + g.val, by have := h.isLt; have := g.isLt; omega⟩

variable (a0 : Vec Ideal S2x16384x4096 .fp8e4m3) (a1 a2 : Vec Ideal S2x16384x512 .fp8e4m3) (a3 : Vec Ideal S32 .f32) (a4 a5 : Vec Ideal S4 .f32)
  (b : Fin 2) (r : Fin 16384) (h : Fin 4) (g : Fin 8) (d : Fin 128)

/-- The products of the weights with the values: quantised attention of one query with all keys of its head. -/
theorem pay2_apply : k0_pay2 a0 a1 a2 a3 a4 (ix5 b r h g d)
    = refAttn (fun c : Fin 16384 => ∑ k : Fin 128, a1 (ix3 b c (kCol h k)) * a0 (ix3 b r (qCol h g k))) (fun c => a2 (ix3 b c (kCol h d)))
        (a3 (ix1 (qHead h g)) * a4 (ix1 h) * Ideal.ofBits .f32 0x3DB504F3#32) := by
  unfold k0_pay2
  simp only [pointwise, Nat.reduceEqDiff, OfNat.ofNat_ne_one, reduceDIte, Cert.KernelIdeal.Value.zero_addE]
  rfl

/-- The output of the reference. -/
theorem pay1_apply (x : FVec Ideal S2x16384x4x8x128 .f32) (y : FVec Ideal S4x1x1 .f32) (s : Ideal .f32) :
    k0_pay1 x y s (ix3 b r (qCol h g d)) = x (ix5 b r h g d) * (y (ix3 h 0 0) * s) := by
  have hb := b.isLt; have hr := r.isLt; have hh := h.isLt; have hg := g.isLt; have hd := d.isLt
  unfold k0_pay1
  show (shapeCast S2x16384x4096 (mulf x (broadcastTo S2x16384x4x8x128 (shapeCast S1x1x4x1x1 (mulf y (broadcast S4x1x1 s)) shapeCasts_S4x1x1_S1x1x4x1x1)
    broadcasts_S1x1x4x1x1_S2x16384x4x8x128)) shapeCasts_S2x16384x4x8x128_S2x16384x4096 : FVec Ideal S2x16384x4096 .f32) (ix3 b r (qCol h g d)) = _
  refine (shapeCast_apply (s := S2x16384x4x8x128) (t := S2x16384x4096) _ shapeCasts_S2x16384x4x8x128_S2x16384x4096 (ix3 b r (qCol h g d)) (ix5 b r h g d) ?_).trans ?_
  · rw [Shape.rowMajor_val_five, Shape.rowMajor_val_three]
    show (((b.val * 16384 + r.val) * 4 + h.val) * 8 + g.val) * 128 + d.val = (b.val * 16384 + r.val) * 4096 + (h.val * 1024 + g.val * 128 + d.val)
    omega
  · show x (ix5 b r h g d) * _ = _
    refine congrArg (x (ix5 b r h g d) * ·) ?_
    refine (broadcastTo_apply (s := S1x1x4x1x1) (t := S2x16384x4x8x128) _ broadcasts_S1x1x4x1x1_S2x16384x4x8x128 (ix5 b r h g d) (ix5 0 0 h 0 0) ?_).trans ?_
    · intro a
      match a with
      | ⟨0, _⟩ => rfl
      | ⟨1, _⟩ => rfl
      | ⟨2, _⟩ => rfl
      | ⟨3, _⟩ => rfl
      | ⟨4, _⟩ => rfl
    · refine (shapeCast_apply (s := S4x1x1) (t := S1x1x4x1x1) _ shapeCasts_S4x1x1_S1x1x4x1x1 (ix5 0 0 h 0 0) (ix3 h 0 0) ?_).trans rfl
      rw [Shape.rowMajor_val_five, Shape.rowMajor_val_three]
      show (h.val * 1 + 0) * 1 + 0 = (((0 * 1 + 0) * 4 + h.val) * 1 + 0) * 1 + 0
      omega

theorem pay3_apply : k0_pay3 a5 (ix3 h 0 0) = a5 (ix1 h) := by
  unfold k0_pay3
  refine shapeCast_apply (s := S4) (t := S4x1x1) _ shapeCasts_S4_S4x1x1 (ix3 h 0 0) (ix1 h) ?_
  rw [Shape.rowMajor_val_three, Shape.rowMajor_val_one]
  show h.val = (h.val * 1 + 0) * 1 + 0
  omega

/-- **The reference's result**, element by element. -/
theorem ref_apply : G6 a0 a1 a2 a3 a4 a5 (ix3 b r (qCol h g d))
    = refAttn (fun c : Fin 16384 => ∑ k : Fin 128, a0 (ix3 b r (qCol h g k)) * a1 (ix3 b c (kCol h k))) (fun c => a2 (ix3 b c (kCol h d)))
        (a3 (ix1 (qHead h g)) * a4 (ix1 h) * Ideal.ofBits .f32 0x3DB504F3#32)
      * (a5 (ix1 h) * Ideal.ofBits .f32 0x3B800000#32) := by
  unfold G6
  rw [pay1_apply, pay2_apply, pay3_apply]
  have e : (fun c : Fin 16384 => ∑ k : Fin 128, a1 (ix3 b c (kCol h k)) * a0 (ix3 b r (qCol h g k)))
      = fun c : Fin 16384 => ∑ k : Fin 128, a0 (ix3 b r (qCol h g k)) * a1 (ix3 b c (kCol h k)) :=
    funext fun c => Finset.sum_congr rfl fun k _ => mul_comm (a1 (ix3 b c (kCol h k)) : EReal) _
  rw [e]
  rfl

end Cert.ReferenceIdeal.Value

end
-- ==== Proof.Equal.lean ====
module

public import proofs.«01_k».proof.Proof.Ref

@[expose] public section

/-! # The kernel's output array is the reference's -/

set_option maxRecDepth 16384

noncomputable section

namespace Cert.Attn

open Idealize.ShloMosaic Cert.KernelIdeal Cert.KernelIdeal.Gen Cert.KernelIdeal.Value
open Cert.ReferenceIdeal.Value (qCol kCol qHead G6 ref_apply)

/-- The named constant denotes `1 / log 2`. -/
theorem log2e : Named.named (F := Ideal) Cert.KernelIdeal.κ "log2e" (φ := .f32) 0x3FB8AA3B#32 = ((L : ℝ) : EReal) :=
  IdealRules.named_const.ideal_named_scalar _ _ _ _ rfl

variable (a0 : Vec Ideal S2x16384x4096 .fp8e4m3) (a1 a2 : Vec Ideal S2x16384x512 .fp8e4m3) (a3 : Vec Ideal S32 .f32) (a4 a5 : Vec Ideal S4 .f32)

/-- The grid point of a batch, a row's block, a key head and a query head of it. -/
def point (b : Fin 2) (r : Fin 16384) (h : Fin 4) (g : Fin 8) : grid0.Coords := fun a => match a with
  | ⟨0, _⟩ => (b : Fin 2)
  | ⟨1, _⟩ => (h : Fin 4)
  | ⟨2, _⟩ => (g : Fin 8)
  | ⟨3, _⟩ => (⟨r.val / 256, by have := r.isLt; omega⟩ : Fin 64)

theorem qBlock_point (b : Fin 2) (r : Fin 16384) (h : Fin 4) (g : Fin 8) (k : Fin 128) :
    qBlock (point b r h g) a0 (ix3 0 ⟨r.val % 256, Nat.mod_lt _ (by decide)⟩ k) = a0 (ix3 b r (qCol h g k)) := by
  unfold qBlock
  refine congrArg a0 (funext fun a => Fin.ext ?_)
  match a with
  | ⟨0, _⟩ => rfl
  | ⟨1, _⟩ => show 256 * (r.val / 256) + r.val % 256 = r.val; exact Nat.div_add_mod _ _
  | ⟨2, _⟩ => show 128 * (8 * h.val + g.val) + k.val = h.val * 1024 + g.val * 128 + k.val; omega
theorem kvBlock_point (A : Vec Ideal S2x16384x512 .fp8e4m3) (b : Fin 2) (r : Fin 16384) (h : Fin 4) (g : Fin 8) (c : Fin 16384) (k : Fin 128) :
    kvBlock (point b r h g) A (ix3 0 c k) = A (ix3 b c (kCol h k)) := by
  unfold kvBlock
  refine congrArg A (funext fun a => Fin.ext ?_)
  match a with
  | ⟨0, _⟩ => rfl
  | ⟨1, _⟩ => rfl
  | ⟨2, _⟩ => show 128 * h.val + k.val = h.val * 128 + k.val; omega

/-- The kernel's output at one element. -/
theorem result_apply (b : Fin 2) (r : Fin 16384) (h : Fin 4) (g : Fin 8) (d : Fin 128) :
    result a0 a1 a2 a3 a4 a5 (ix3 b r (qCol h g d))
      = kerAttn (fun c : Fin 16384 => ∑ k : Fin 128, a0 (ix3 b r (qCol h g k)) * a1 (ix3 b c (kCol h k))) (fun c => a2 (ix3 b c (kCol h d)))
          (a3 (ix1 (qHead h g)) * a4 (ix1 h) * Ideal.ofBits .f32 0x3DB504F3#32 * (L : EReal))
        * (a5 (ix1 h) * Ideal.ofBits .f32 0x3B800000#32) := by
  rw [result_at a0 a1 a2 a3 a4 a5 (point b r h g) (ix3 0 ⟨r.val % 256, Nat.mod_lt _ (by decide)⟩ d) _ rfl
    (show r.val = 256 * (r.val / 256) + r.val % 256 from (Nat.div_add_mod _ _).symm)
    (show h.val * 1024 + g.val * 128 + d.val = 128 * (8 * h.val + g.val) + d.val by omega)]
  unfold blockOut
  rw [out_apply, pay4_eq, log2e, scaleQ_eq, scaleKV_eq, scaleKV_eq]
  simp only [qBlock_point, kvBlock_point]
  have e : (⟨8 * (point b r h g 1).val + (point b r h g 2).val, by have := i1_lt (point b r h g); have := i2_lt (point b r h g); omega⟩ : Fin 32) = qHead h g :=
    Fin.ext (show 8 * h.val + g.val = h.val * 8 + g.val by omega)
  rw [e]
  rfl

/-- Every place of the output is some lane of some head of some row. -/
theorem exists_place (y : S2x16384x4096.Idx) : ∃ (b : Fin 2) (r : Fin 16384) (h : Fin 4) (g : Fin 8) (d : Fin 128), y = ix3 b r (qCol h g d) :=
  ⟨⟨(y (0 : Fin 3)).val, y0_lt y⟩, ⟨(y (1 : Fin 3)).val, y1_lt y⟩, ⟨(y (2 : Fin 3)).val / 1024, by have := y2_lt y; omega⟩,
    ⟨(y (2 : Fin 3)).val / 128 % 8, Nat.mod_lt _ (by decide)⟩, ⟨(y (2 : Fin 3)).val % 128, Nat.mod_lt _ (by decide)⟩,
    funext fun a => Fin.ext (by
      match a with
      | ⟨0, _⟩ => rfl
      | ⟨1, _⟩ => rfl
      | ⟨2, _⟩ =>
        show (y (2 : Fin 3)).val = (y (2 : Fin 3)).val / 1024 * 1024 + (y (2 : Fin 3)).val / 128 % 8 * 128 + (y (2 : Fin 3)).val % 128
        omega)⟩

/-- **The two output arrays are the same**, whatever the arguments hold. -/
theorem result_eq : result a0 a1 a2 a3 a4 a5 = G6 a0 a1 a2 a3 a4 a5 := by
  funext y
  obtain ⟨b, r, h, g, d, rfl⟩ := exists_place y
  rw [result_apply, kerAttn_eq]
  exact (ref_apply a0 a1 a2 a3 a4 a5 b r h g d).symm

end Cert.Attn

end
-- ==== Proof.Frame.lean ====
module

public import proofs.«01_k».proof.Defs
public import proofs.«01_k».proof.Proof.Run
public import proofs.«01_k».proof.Proof.Gen.Kernel

@[expose] public section

/-! # The frame of the kernel itself

The idealized kernel's text is the kernel's but for one constant, which it names. Its frame (Run.lean) holds over any floats and any
reading of that name; at the machine's words, with the name read as its own word, it is the kernel's frame. -/

set_option maxRecDepth 16384

noncomputable section

namespace Cert.Attn

open Idealize.ShloMosaic Idealize.SL.Sem

/-- A named constant read as its own word. -/
abbrev wordNamed : Named Bits := ⟨fun _ _ {φ} b => FloatOps.ofBits φ b⟩

attribute [local instance] wordNamed

/-- The bodies of the two programs are the same. -/
theorem bodies_eq : Cert.Kernel.defs₀ (F := Bits) = Cert.KernelIdeal.defs₀ (F := Bits) := by
  delta Cert.Kernel.defs₀ Cert.KernelIdeal.defs₀
  congr 1
  funext l x
  match l, x with
  | 0, (t, s) => rfl

/-- So are their tables of bodies, with the pipeline's. -/
theorem defs_eq : Cert.Kernel.defs (F := Bits) = Cert.KernelIdeal.defs (F := Bits) :=
  congrArg (Pipeline.defs Cert.KernelIdeal.pcfgs) bodies_eq

/-- The kernel runs, leaves its arguments and ends with every semaphore at zero. -/
theorem frame_kernel : Cert.quiescent_Kernel := fun m ρ _ => by
  rw [defs_eq]
  exact Cert.KernelIdeal.Value.frame (F := Bits) m ρ

end Cert.Attn

end
-- ==== Proof.lean ====
/- The five claims about the attention kernel and its reference: the kernel, its idealization and the
   reference each run to the end, leave their arguments and end with every semaphore at zero; the
   idealization names one constant and changes nothing else; and over the extended reals the kernel and
   the reference end with the same output array, for all arguments. -/
module

public import proofs.«01_k».proof.Proof.Equal
public import proofs.«01_k».proof.Proof.Frame
public import proofs.«01_k».proof.Proof.Gen.ReferenceIdeal.Value
public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import Idealize.ShloMosaic.Adequacy
public import Idealize.ShloMosaic.Init

@[expose] public section

noncomputable section

namespace Cert.Proof

open Idealize.ShloMosaic Idealize.SL.Sem Cert.Kernel

/-- The kernel runs, leaves its arguments and ends with every semaphore at zero. -/
theorem frame_p : Cert.quiescent_Kernel := Cert.Attn.frame_kernel
/-- So does its idealization, … -/
theorem frame_pi : Cert.quiescent_KernelIdeal := fun m ρ _ => Cert.KernelIdeal.Value.frame m ρ
/-- … and so does the reference. -/
theorem frame_ri : Cert.quiescent_ReferenceIdeal := fun m ρ _ => Cert.ReferenceIdeal.Gen.frame m ρ

/-- The one rewrite of the idealization: the constant `log2e` is named `1 / log 2`. -/
theorem preserves : Cert.preserves_Kernel_KernelIdeal :=
  IdealRules.named_const.statement Cert.KernelIdeal.κ "log2e" .f32 0x3FB8AA3B#32 (((Real.log 2)⁻¹ : ℝ) : EReal) rfl

/-- From arguments that agree, both runs end with the same output array. -/
theorem algebraic : Cert.algebraic_KernelIdeal_ReferenceIdeal := by
  intro m ρ m' ρ' _ hagree
  refine ⟨_, Cert.KernelIdeal.Value.run (F := Ideal) m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5⟩ := hagree c
  rw [h0, h1, h2, h3, h4, h5]
  exact (Cert.Attn.result_eq _ _ _ _ _ _).symm

theorem claim : Cert.Claim :=
  ⟨Cert.Kernel.Gen.facts, Cert.KernelIdeal.Gen.facts, Cert.ReferenceIdeal.Gen.facts, frame_p, frame_pi, frame_ri, preserves, algebraic⟩

end Cert.Proof

end
